-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .bf16) (main_arg1 : FVec F S512x256 .bf16) (main_arg2 : FVec F S2x128x32x64 .bf16) (main_arg3 : FVec F S2x128x32x64 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x32x64 .bf16 := Host.absf main_arg2
  let main_cst_2 : FVec F S_ .bf16 := constant S_ .bf16 0x7F80#16
  let main_v10 : FVec F S2x128x32x64 .bf16 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .bf16) (main_arg1 : FVec F S512x2048 .bf16) (main_arg2 : FVec F S2x128x32x64 .bf16) (main_arg3 : FVec F S2x128x32x64 .bf16) (main_arg4 : FVec F S2048x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x32x64 .bf16 := Host.absf main_arg2
  let main_cst_2 : FVec F S_ .bf16 := constant S_ .bf16 0x7F80#16
  let main_v10 : FVec F S2x128x32x64 .bf16 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩
abbrev S2x128x4x64 : Shape := ⟨4, ![2, 128, 4, 64]⟩
abbrev S2x128x256 : Shape := ⟨3, ![2, 128, 256]⟩
abbrev S2x3x128x512 : Shape := ⟨4, ![2, 3, 128, 512]⟩
abbrev S128x256 : Shape := ⟨2, ![128, 256]⟩
abbrev S2x3 : Shape := ⟨2, ![2, 3]⟩
abbrev S128x128 : Shape := ⟨2, ![128, 128]⟩
abbrev S1x128x512 : Shape := ⟨3, ![1, 128, 512]⟩
abbrev S128x512 : Shape := ⟨2, ![128, 512]⟩
abbrev S128x64 : Shape := ⟨2, ![128, 64]⟩
abbrev S1x128x64 : Shape := ⟨3, ![1, 128, 64]⟩
abbrev S128 : Shape := ⟨1, ![128]⟩
abbrev S128x1 : Shape := ⟨2, ![128, 1]⟩
abbrev S1x1x128x512 : Shape := ⟨4, ![1, 1, 128, 512]⟩
abbrev S1x1 : Shape := ⟨2, ![1, 1]⟩

abbrev nBuf : Space → Nat
  | .hbm => 36
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x32x64, .bf16⟩
  | .hbm, ⟨3, _⟩ => ⟨S2x128x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .bf16⟩
  | .hbm, ⟨33, _⟩ => ⟨S2x128x256, .bf16⟩
  | .hbm, ⟨34, _⟩ => ⟨S2x128x256, .bf16⟩
  | .hbm, ⟨35, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x256, .bf16⟩
  | .local _ .vmem, ⟨3, _⟩ => ⟨S2x128x256, .bf16⟩
  | .local _ .vmem, ⟨4, _⟩ => ⟨S256x512, .bf16⟩
  | .local _ .vmem, ⟨5, _⟩ => ⟨S2x128x512, .bf16⟩
  | .local _ .vmem, ⟨6, _⟩ => ⟨S2x3x128x512, .bf16⟩
  | .local _ .vmem, ⟨7, _⟩ => ⟨S2x3x128x512, .bf16⟩
  | .local _ .vmem, ⟨8, _⟩ => ⟨S128x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_106 : BitVec 32 := 1#32
  let v201 : BitVec 32 := Scalar.muli v3 c1_i32_106
  let v202 : BitVec 32 := Scalar.addi c0_i32_107 v201
  v202.toNat
def k0_dev5 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_187 : BitVec 32 := 1#32
  let v314 : BitVec 32 := Scalar.muli v3 c1_i32_187
  let v315 : BitVec 32 := Scalar.addi c0_i32_188 v314
  v315.toNat
def k0_dev6 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_240 : BitVec 32 := 1#32
  let v346 : BitVec 32 := Scalar.muli v4 c1_i32_240
  let v347 : BitVec 32 := Scalar.addi c0_i32_241 v346
  v347.toNat
def k0_dev7 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_293 : BitVec 32 := 1#32
  let v378 : BitVec 32 := Scalar.muli v4 c1_i32_293
  let v379 : BitVec 32 := Scalar.addi c0_i32_294 v378
  v379.toNat
def k0_dev8 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_344 : BitVec 32 := 1#32
  let v410 : BitVec 32 := Scalar.muli v5 c1_i32_344
  let v411 : BitVec 32 := Scalar.addi c0_i32_345 v410
  v411.toNat
def k0_dev9 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_397 : BitVec 32 := 1#32
  let v442 : BitVec 32 := Scalar.muli v5 c1_i32_397
  let v443 : BitVec 32 := Scalar.addi c0_i32_398 v442
  v443.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some ((8⁻¹ * (Real.log 2)⁻¹ : ℝ) : EReal)
  | _ => none
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 143
  | .vmem => 0
  | .smem => 0
  | _ => 0

abbrev hbmTy0_0 (i : Nat) : BufTy := match i % 128 with
  | 0 => ⟨S2x128x512, .bf16⟩
  | 1 => ⟨S512x2048, .bf16⟩
  | 2 => ⟨S2x128x32x64, .bf16⟩
  | 3 => ⟨S2x128x32x64, .bf16⟩
  | 4 => ⟨S2048x512, .bf16⟩
  | 5 => ⟨S2x128x512, .f32⟩
  | 6 => ⟨S512x2048, .f32⟩
  | 7 => ⟨S2x128x32x64, .f32⟩
  | 8 => ⟨S2x128x32x64, .f32⟩
  | 9 => ⟨S2048x512, .f32⟩
  | 10 => ⟨S2x128x2048, .f32⟩
  | 11 => ⟨S2x128x32x64, .f32⟩
  | 12 => ⟨S128, .i32⟩
  | 13 => ⟨S_, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S128, .i32⟩
  | 22 => ⟨S128, .i32⟩
  | 23 => ⟨S_, .i32⟩
  | 24 => ⟨S128, .i32⟩
  | 25 => ⟨S128, .i1⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S128, .i32⟩
  | 33 => ⟨S_, .i32⟩
  | 34 => ⟨S_, .i32⟩
  | 35 => ⟨S128, .i32⟩
  | 36 => ⟨S128, .i32⟩
  | 37 => ⟨S128, .i32⟩
  | 38 => ⟨S_, .i32⟩
  | 39 => ⟨S128, .i32⟩
  | 40 => ⟨S128, .i1⟩
  | 41 => ⟨S128, .i32⟩
  | 42 => ⟨S128, .i32⟩
  | 43 => ⟨S_, .i32⟩
  | 44 => ⟨S128, .i32⟩
  | 45 => ⟨S128, .i1⟩
  | 46 => ⟨S128, .i1⟩
  | 47 => ⟨S_, .i32⟩
  | 48 => ⟨S128, .i32⟩
  | 49 => ⟨S128, .i32⟩
  | 50 => ⟨S128, .i32⟩
  | 51 => ⟨S1x128, .i32⟩
  | 52 => ⟨S128x128, .i32⟩
  | 53 => ⟨S128x128, .i32⟩
  | 54 => ⟨S128x128, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x128, .i32⟩
  | 62 => ⟨S1x128, .i32⟩
  | 63 => ⟨S_, .i32⟩
  | 64 => ⟨S1x128, .i32⟩
  | 65 => ⟨S1x128, .i1⟩
  | 66 => ⟨S_, .i32⟩
  | 67 => ⟨S1x128, .i32⟩
  | 68 => ⟨S1x128, .i1⟩
  | 69 => ⟨S_, .i32⟩
  | 70 => ⟨S_, .i1⟩
  | 71 => ⟨S1x128, .i1⟩
  | 72 => ⟨S1x128, .i1⟩
  | 73 => ⟨S1x128, .i1⟩
  | 74 => ⟨S1x128, .i32⟩
  | 75 => ⟨S1x128, .i32⟩
  | 76 => ⟨S1x128, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S_, .i32⟩
  | 89 => ⟨S128x1, .i32⟩
  | 90 => ⟨S128x1, .i1⟩
  | 91 => ⟨S_, .i32⟩
  | 92 => ⟨S_, .i1⟩
  | 93 => ⟨S128x1, .i1⟩
  | 94 => ⟨S128x1, .i1⟩
  | 95 => ⟨S128x1, .i1⟩
  | 96 => ⟨S128x1, .i32⟩
  | 97 => ⟨S128x1, .i32⟩
  | 98 => ⟨S128x1, .i32⟩
  | 99 => ⟨S128x128, .i32⟩
  | 100 => ⟨S128x128, .i32⟩
  | 101 => ⟨S128x128, .i1⟩
  | 102 => ⟨S128x128, .i1⟩
  | 103 => ⟨S2x32x128x128, .f32⟩
  | 104 => ⟨S_, .f32⟩
  | 105 => ⟨S2x32x128x128, .f32⟩
  | 106 => ⟨S2x32x128x128, .f32⟩
  | 107 => ⟨S1x1x128x128, .i1⟩
  | 108 => ⟨S_, .f32⟩
  | 109 => ⟨S_, .f32⟩
  | 110 => ⟨S2x32x128x128, .i1⟩
  | 111 => ⟨S2x32x128x128, .f32⟩
  | 112 => ⟨S2x32x128x128, .f32⟩
  | 113 => ⟨S_, .f32⟩
  | 114 => ⟨S2x32x128, .f32⟩
  | 115 => ⟨S2x32x128x1, .f32⟩
  | 116 => ⟨S2x32x128x128, .f32⟩
  | 117 => ⟨S2x32x128x128, .f32⟩
  | 118 => ⟨S2x32x128x128, .f32⟩
  | 119 => ⟨S_, .i1⟩
  | 120 => ⟨S128, .i1⟩
  | 121 => ⟨S1x1x128x1, .i1⟩
  | 122 => ⟨S_, .f32⟩
  | 123 => ⟨S2x32x128, .f32⟩
  | 124 => ⟨S2x32x128x1, .f32⟩
  | 125 => ⟨S_, .f32⟩
  | 126 => ⟨S_, .f32⟩
  | 127 => ⟨S2x32x128x1, .i1⟩
  | _ => ⟨S2x128x512, .bf16⟩

abbrev hbmTy0_1 (i : Nat) : BufTy := match i % 128 with
  | 0 => ⟨S2x32x128x1, .f32⟩
  | 1 => ⟨S2x32x128x1, .f32⟩
  | 2 => ⟨S2x32x128x128, .f32⟩
  | 3 => ⟨S2x32x128x128, .f32⟩
  | 4 => ⟨S1x1x128x1, .i1⟩
  | 5 => ⟨S_, .f32⟩
  | 6 => ⟨S_, .f32⟩
  | 7 => ⟨S2x32x128x128, .i1⟩
  | 8 => ⟨S2x32x128x128, .f32⟩
  | 9 => ⟨S2x32x128x128, .f32⟩
  | 10 => ⟨S2x32x64x128, .f32⟩
  | 11 => ⟨S2x128x32x64, .f32⟩
  | 12 => ⟨S2x128x2048, .f32⟩
  | 13 => ⟨S2x128x512, .f32⟩
  | 14 => ⟨S2x128x512, .bf16⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Protocol.lean ====
/-
The exchange of the kernel's six blocks over the hypercube: partners, cells, slots, the one-round schedule, levels and dues.

Slot `x = 2 r + b` belongs to step `r` (the partner differs by the `r`th mask) and row block `b`. A slot's transfer reads this
device's buffer at the slot and writes the partner's landing buffer at the same slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.StableHlo
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

abbrev mask : Fin 3 → ℕ := ![1, 3, 4]

set_option backward.proofsInPublic true in
/-- The partner of device `c` at step `r`. -/
def pr (r : Fin 3) (c : Dev nD) : Dev nD := ⟨(c.val ^^^ mask r) % 8, Nat.mod_lt _ (by decide)⟩

theorem pr_pr (r : Fin 3) (c : Dev nD) : pr r (pr r c) = c := by revert r c; decide
def around (r : Fin 3) : Dev nD ≃ Dev nD := ⟨pr r, pr r, pr_pr r, pr_pr r⟩

theorem dev1_eq (c : Dev nD) : (⟨k0_dev1 c, k0_dev1_lt c⟩ : Dev nD) = pr 0 c := by revert c; decide
theorem dev2_eq (c : Dev nD) : (⟨k0_dev2 c, k0_dev2_lt c⟩ : Dev nD) = pr 1 c := by revert c; decide
theorem dev3_eq (c : Dev nD) : (⟨k0_dev3 c, k0_dev3_lt c⟩ : Dev nD) = pr 2 c := by revert c; decide
theorem dev4_eq (c : Dev nD) : (⟨k0_dev4 c, k0_dev4_lt c⟩ : Dev nD) = pr 0 c := by revert c; decide
theorem dev5_eq (c : Dev nD) : (⟨k0_dev5 c, k0_dev5_lt c⟩ : Dev nD) = pr 0 c := by revert c; decide
theorem dev6_eq (c : Dev nD) : (⟨k0_dev6 c, k0_dev6_lt c⟩ : Dev nD) = pr 1 c := by revert c; decide
theorem dev7_eq (c : Dev nD) : (⟨k0_dev7 c, k0_dev7_lt c⟩ : Dev nD) = pr 1 c := by revert c; decide
theorem dev8_eq (c : Dev nD) : (⟨k0_dev8 c, k0_dev8_lt c⟩ : Dev nD) = pr 2 c := by revert c; decide
theorem dev9_eq (c : Dev nD) : (⟨k0_dev9 c, k0_dev9_lt c⟩ : Dev nD) = pr 2 c := by revert c; decide

/-! ## Slots -/

abbrev bs : Fin 6 → ℕ := ![0, 1, 0, 1, 0, 1]
abbrev rs : Fin 6 → ℕ := ![0, 0, 1, 1, 2, 2]
/-- The step slot `x` belongs to. -/
abbrev stp : Fin 6 → Fin 3 := ![0, 0, 1, 1, 2, 2]
/-- The two slots of step `r`. -/
abbrev lo : Fin 3 → Fin 6 := ![0, 2, 4]
abbrev hi : Fin 3 → Fin 6 := ![1, 3, 5]

theorem stp_lo (r : Fin 3) : stp (lo r) = r := by revert r; decide
theorem stp_hi (r : Fin 3) : stp (hi r) = r := by revert r; decide

abbrev offs (x : Fin 6) : Fin 4 → ℕ := ![bs x, rs x, 0, 0]
theorem offs_inb : ∀ x : Fin 6, ∀ a : Fin 4, offs x a + S1x1x128x512.size a ≤ S2x3x128x512.size a := by decide
/-- Slot `x`'s rectangle. -/
abbrev slotR (x : Fin 6) : Rect S2x3x128x512 := Rect.unit (s := S2x3x128x512) (offs x) S1x1x128x512.size (offs_inb x)

abbrev commW : Memref sig .tc .vmem S2x3x128x512 .bf16 := Memref.whole cc0_scratch0
abbrev landW : Memref sig .tc .vmem S2x3x128x512 .bf16 := Memref.whole cc0_scratch1
abbrev commM (x : Fin 6) : Memref sig .tc .vmem S1x1x128x512 .bf16 := commW.slice (slotR x) (fun _ => rfl)
abbrev landM (x : Fin 6) : Memref sig .tc .vmem S1x1x128x512 .bf16 := landW.slice (slotR x) (fun _ => rfl)
abbrev commQ (x : Fin 6) : Memref sig .tc .vmem S128x512 .bf16 := (commM x).squeeze S128x512 squeezes_S1x1x128x512_S128x512
abbrev landQ (x : Fin 6) : Memref sig .tc .vmem S128x512 .bf16 := (landM x).squeeze S128x512 squeezes_S1x1x128x512_S128x512

/-! ## Cells -/

abbrev barS : Sem sig := (SemArray.scalar (sig.barrier 0 rfl) : Sems sig S_).sem
abbrev sendS : Fin 6 → DmaSem sig := ![⟨6, by decide⟩, ⟨9, by decide⟩, ⟨7, by decide⟩, ⟨10, by decide⟩, ⟨8, by decide⟩, ⟨11, by decide⟩]
abbrev landS : Fin 6 → DmaSem sig := ![⟨12, by decide⟩, ⟨15, by decide⟩, ⟨13, by decide⟩, ⟨16, by decide⟩, ⟨14, by decide⟩, ⟨17, by decide⟩]

/-- The slot a transfer semaphore belongs to. -/
abbrev slotOf (q : DmaSem sig) : Fin 6 := ⟨(2 * ((q.val - 6) % 3) + ((q.val - 6) / 3) % 2) % 6, Nat.mod_lt _ (by decide)⟩

theorem slotOf_send (x : Fin 6) : slotOf (sendS x) = x := by revert x; decide
theorem slotOf_land (x : Fin 6) : slotOf (landS x) = x := by revert x; decide
theorem send_ge (x : Fin 6) : 6 ≤ (sendS x).val := by revert x; decide
theorem land_ge (x : Fin 6) : 6 ≤ (landS x).val := by revert x; decide
theorem send_lt (x : Fin 6) : (sendS x).val < 12 := by revert x; decide
theorem land_nlt (x : Fin 6) : ¬ (landS x).val < 12 := by revert x; decide
theorem land_inj : Function.Injective landS := by decide

abbrev barCell (c : Dev nD) : GSem nD τ sig := ((c : Thread nD τ), .reg barS)
abbrev sendCell (c : Dev nD) (x : Fin 6) : GSem nD τ sig := ((c : Thread nD τ), .dma (sendS x))
abbrev landCell (c : Dev nD) (x : Fin 6) : GSem nD τ sig := ((c : Thread nD τ), .dma (landS x))

abbrev N : ℕ := (landQ 0).view.dmaCredit
theorem N_pos : 0 < N := View.dmaCredit_pos _ (by decide)
theorem N_eq (x : Fin 6) : (landQ x).view.dmaCredit = N := rfl
theorem N_eq' (x : Fin 6) : (commQ x).view.dmaCredit = N := rfl

/-! ## The schedule -/

/-- What a slot of the six holds on each device. -/
abbrev Blocks (F : FTy → Type) : Type := Fin 6 → Dev nD → S1x1x128x512.Idx → Elt F .bf16

variable (B : Blocks F)

/-- Device `c`'s slot `x`, holding `X`. -/
def commO (c : Dev nD) (x : Fin 6) (X : S1x1x128x512.Idx → Elt F .bf16) : sProp 𝕄 := owns (c : Thread nD τ) (commM x) fullShare X
/-- Device `c`'s landing slot `x`, holding `X`. -/
def landO (c : Dev nD) (x : Fin 6) (X : S1x1x128x512.Idx → Elt F .bf16) : sProp 𝕄 := owns (c : Thread nD τ) (landM x) fullShare X
/-- What a transfer into device `c`'s landing slot `x` needs: the slot at some contents, its cell at round 0. -/
def room (c : Dev nD) (x : Fin 6) : sProp 𝕄 := iprop((∃ X, landO (F := F) c x X) ∗ reached ER (landCell c x) 0)
/-- What the partner at step `r` hands device `c` with its signal. -/
def barPay (c : Dev nD) (r : Fin 3) : sProp 𝕄 := iprop(room (F := F) (pr r c) (lo r) ∗ room (F := F) (pr r c) (hi r))

omit [FloatOps F] [Named F] in
instance commO_storable (c : Dev nD) (x : Fin 6) (X) : BI.Storable (upEmb : UEmb _ 𝕄) (commO (F := F) c x X) := by unfold commO; infer_instance
omit [FloatOps F] [Named F] in
instance landO_storable (c : Dev nD) (x : Fin 6) (X) : BI.Storable (upEmb : UEmb _ 𝕄) (landO (F := F) c x X) := by unfold landO; infer_instance

/-- One round: a barrier cell has one duty per step, of one unit; a transfer's cell the duty `0`, of the block's credit. -/
def rd : Rounds.Schedule (GSem nD τ sig) (Fin 3) 𝕄 where
  duties g r := if r = 0 ∧ g.1.2 = .tc then
      (match g.2 with
      | .reg s => if s = barS then Finset.univ else ∅
      | .dma q => if 6 ≤ q.val then {0} else ∅) else ∅
  unitless _ := False
  amount g _ _ := match g.2 with | .reg _ => 1 | .dma _ => N
  payload g _ d := match g.2 with
    | .reg _ => barPay g.1.1 d
    | .dma q => if q.val < 12 then commO g.1.1 (slotOf q) (B (slotOf q) g.1.1)
        else landO g.1.1 (slotOf q) (B (slotOf q) (pr (stp (slotOf q)) g.1.1))
  amount_pos g _ _ _ := by
    rcases g with ⟨t, s | q⟩
    · exact Nat.one_pos
    · exact N_pos

instance rd_payload_storable (g : GSem nD τ sig) (r : ℕ) (d : Fin 3) :
    BI.Storable (upEmb : UEmb _ 𝕄) ((rd (F := F) B).payload g r d) := by
  rcases g with ⟨t, s | q⟩
  · show BI.Storable upEmb (barPay (F := F) t.1 d)
    unfold barPay room; infer_instance
  · show BI.Storable upEmb (if q.val < 12 then commO t.1 (slotOf q) (B (slotOf q) t.1)
        else landO t.1 (slotOf q) (B (slotOf q) (pr (stp (slotOf q)) t.1)))
    split <;> infer_instance

section Tables
variable (c : Dev nD) (x : Fin 6)
omit [FloatOps F] [Named F]

theorem duties_bar : (rd (F := F) B).duties (barCell c) 0 = Finset.univ := by
  dsimp only [rd]; rw [if_pos ⟨rfl, rfl⟩]; exact if_pos rfl
theorem duties_send : (rd (F := F) B).duties (sendCell c x) 0 = {0} := by
  dsimp only [rd]; rw [if_pos ⟨rfl, rfl⟩]; exact if_pos (send_ge x)
theorem duties_land : (rd (F := F) B).duties (landCell c x) 0 = {0} := by
  dsimp only [rd]; rw [if_pos ⟨rfl, rfl⟩]; exact if_pos (land_ge x)
theorem duties_later (g : GSem nD τ sig) : ∀ r, 1 ≤ r → (rd (F := F) B).duties g r = ∅ :=
  fun r hr => by dsimp only [rd]; rw [if_neg fun h => by omega]

theorem amount_bar (d : Fin 3) : (rd (F := F) B).amount (barCell c) 0 d = 1 := rfl
theorem amount_send (d : Fin 3) : (rd (F := F) B).amount (sendCell c x) 0 d = N := rfl
theorem amount_land (d : Fin 3) : (rd (F := F) B).amount (landCell c x) 0 d = N := rfl

theorem expect_bar : (rd (F := F) B).expect (barCell c) 0 = 3 := by
  unfold Schedule.expect Schedule.amountOf
  rw [duties_bar, Finset.sum_congr rfl fun d _ => amount_bar B c d, Finset.sum_const, Finset.card_univ, Fintype.card_fin, smul_eq_mul]
theorem expect_send : (rd (F := F) B).expect (sendCell c x) 0 = N := by
  unfold Schedule.expect Schedule.amountOf; rw [duties_send, Finset.sum_singleton, amount_send]
theorem expect_land : (rd (F := F) B).expect (landCell c x) 0 = N := by
  unfold Schedule.expect Schedule.amountOf; rw [duties_land, Finset.sum_singleton, amount_land]

theorem payload_bar (d : Fin 3) : (rd (F := F) B).payload (barCell c) 0 d = barPay c d := rfl
theorem payload_send (d : Fin 3) : (rd (F := F) B).payload (sendCell c x) 0 d = commO c x (B x c) := by
  dsimp only [rd]; rw [if_pos (send_lt x), slotOf_send]
theorem payload_land (d : Fin 3) : (rd (F := F) B).payload (landCell c x) 0 d = landO c x (B x (pr (stp x) c)) := by
  dsimp only [rd]; rw [if_neg (land_nlt x), slotOf_land]

theorem rest_bar : bigSep ((rd (F := F) B).duties (barCell c) 0 \ ∅) (fun d => (rd (F := F) B).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((rd (F := F) B).duties (sendCell c x) 0 \ ∅) (fun d => (rd (F := F) B).payload (sendCell c x) 0 d) = commO c x (B x c) := by
  rw [Finset.sdiff_empty, duties_send, bigSep_singleton, payload_send]
theorem rest_land : bigSep ((rd (F := F) B).duties (landCell c x) 0 \ ∅) (fun d => (rd (F := F) B).payload (landCell c x) 0 d)
    = landO c x (B x (pr (stp x) c)) := by
  rw [Finset.sdiff_empty, duties_land, bigSep_singleton, payload_land]

end Tables

/-! ## Dues and levels -/

/-- What is owed for the transfers from slot `k` on. -/
def ow (c : Dev nD) (k : ℕ) : CellTallies nD τ sig Unit :=
  ∑ x ∈ Finset.univ.filter (fun x : Fin 6 => k ≤ x.val), tallyAt (landCell (pr (stp x) c) x) () N

theorem ow_step (c : Dev nD) (x : Fin 6) : ow c x.val = ow c (x.val + 1) + tallyAt (landCell (pr (stp x) c) x) () N := by
  unfold ow
  rw [show Finset.univ.filter (fun y : Fin 6 => x.val ≤ y.val) = insert x (Finset.univ.filter (fun y : Fin 6 => x.val + 1 ≤ y.val)) from by
      ext y; simp only [Finset.mem_filter, Finset.mem_univ, true_and, Finset.mem_insert, Fin.ext_iff]; omega,
    Finset.sum_insert (by simp), add_comm]
theorem ow_done (c : Dev nD) : ow c 6 = 0 := by
  unfold ow; rw [show Finset.univ.filter (fun y : Fin 6 => 6 ≤ y.val) = ∅ from by decide, Finset.sum_empty]

theorem ow_apply (c : Dev nD) (k : ℕ) (g : GSem nD τ sig) (u : Unit) :
    ow c k g u = ∑ x ∈ Finset.univ.filter (fun x : Fin 6 => k ≤ x.val), (tallyAt (landCell (pr (stp x) c) x) () N : CellTallies nD τ sig Unit) g u := by
  unfold ow; rw [Finset.sum_apply, Finsupp.finset_sum_apply]

theorem ow_pos {c : Dev nD} {k : ℕ} {g : GSem nD τ sig} {u : Unit} (h : 0 < ow c k g u) :
    ∃ x : Fin 6, k ≤ x.val ∧ g = landCell (pr (stp x) c) x := by
  rw [ow_apply] at h
  obtain ⟨x, hx, hx'⟩ := Finset.exists_ne_zero_of_sum_ne_zero (Nat.pos_iff_ne_zero.mp h)
  refine ⟨x, (Finset.mem_filter.mp hx).2, ?_⟩
  by_contra hn
  rw [tallyAt_apply, if_neg (fun h' => hn h'.1)] at hx'
  exact hx' rfl

/-- What device `c` owes at launch: six landings, and a unit to each partner's barrier cell. -/
def O₂ (c : Dev nD) : CellTallies nD τ sig Unit := ow c 0 + tallyAt (barCell (pr 2 c)) () 1
def O₁ (c : Dev nD) : CellTallies nD τ sig Unit := O₂ c + tallyAt (barCell (pr 1 c)) () 1
def O₀ (c : Dev nD) : CellTallies nD τ sig Unit := O₁ c + tallyAt (barCell (pr 0 c)) () 1

def L (g : GSem nD τ sig) : Finset Unit := if g.1.2 = .tc then {()} else ∅
/-- Barrier cells at 1, the landing cell of slot `x` at `2 + x`, everything else at 0. -/
def lv (g : GSem nD τ sig) (_ : Unit) : ℕ := match g.2 with
  | .reg _ => 1
  | .dma q => if q.val < 12 then 0 else 2 + (slotOf q).val

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_land (c : Dev nD) (x : Fin 6) : lv (landCell c x) () = 2 + x.val := by dsimp only [lv]; rw [if_neg (land_nlt x)]; exact congrArg (fun y : Fin 6 => 2 + y.val) (slotOf_land x)
theorem lv_low (c : Dev nD) (q : DmaSem sig) (h : q.val < 12) : lv ((c : Thread nD τ), .dma q) () = 0 := by dsimp only [lv]; rw [if_pos h]

theorem O₀_pos {c : Dev nD} {g : GSem nD τ sig} {u : Unit} (h : 0 < O₀ c g u) :
    (∃ x, g = landCell (pr (stp x) c) x) ∨ ∃ r, g = barCell (pr r c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  simp only [Nat.add_zero] at h
  obtain ⟨x, -, hx⟩ := ow_pos h
  exact hn.1 x hx

theorem O₀_cut (c : Dev nD) {g : GSem nD τ sig} {u : Unit} (h : 0 < O₀ c g u) : u ∈ L g ∧ 0 < lv g u := by
  rcases O₀_pos h with ⟨x, rfl⟩ | ⟨r, rfl⟩
  · refine ⟨by rw [L_tc]; exact Finset.mem_singleton_self _, ?_⟩
    show 0 < lv _ (); rw [lv_land]; omega
  · exact ⟨by rw [L_tc]; exact Finset.mem_singleton_self _, Nat.one_pos⟩

omit [FloatOps F] [Named F] in
/-- A wait at a cell below level `2 + k` may be met while the transfers from slot `k` on are owed. -/
theorem mayWait (c : Dev nD) (sm : SemLoc sig) (k : ℕ) (h : lv ((c : Thread nD τ), sm) () < 2 + k) :
    (levAts L lv : sProp 𝕄) ⊢ MayWait (c : Thread nD τ) sm () (ow c k) :=
  MayOwe.of_cut (L := L) (lev := lv) (lv ((c : Thread nD τ), sm) ()) (fun p hp => by rw [Finset.mem_singleton.mp hp, L_tc]; exact Finset.mem_singleton_self _)
    (fun g u hg => by obtain ⟨x, -, rfl⟩ := ow_pos hg; rw [L_tc]; exact Finset.mem_singleton_self _)
    (fun p hp => by rw [Finset.mem_singleton.mp hp])
    (fun g u hg => by
      obtain ⟨x, hx, rfl⟩ := ow_pos hg
      show _ < lv _ (); rw [lv_land]; omega)

/-! ## The cells of the exchange, and the records every device may consult -/

/-- The twelve transfer semaphores of a device: sends then landings. -/
abbrev osem : Fin 12 → SemLoc sig := fun k => .dma ⟨6 + k.val, by show 6 + k.val < 18; omega⟩
def sIx : Fin 6 → Fin 12 := ![0, 3, 1, 4, 2, 5]
def lIx : Fin 6 → Fin 12 := ![6, 9, 7, 10, 8, 11]
theorem osem_send (x : Fin 6) : osem (sIx x) = .dma (sendS x) := by revert x; decide
theorem osem_land (x : Fin 6) : osem (lIx x) = .dma (landS x) := by revert x; decide
theorem osem_inj : Function.Injective osem := by decide
theorem osem_ne_bar : ∀ k : Fin 12, osem k ≠ .reg barS := by decide

def barEmb : Dev nD ↪ GSem nD τ sig := ⟨fun c => barCell c, fun _ _ h => congrArg (fun g : GSem nD τ sig => g.1.1) h⟩
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem sc_mem (c : Dev nD) (k : Fin 12) : (((c : Thread nD τ), osem k) : GSem nD τ sig) ∈ (barCells ∪ scCells : Finset (GSem nD τ sig)) :=
  Finset.mem_union_right _ (Finset.mem_map_of_mem scEmb (Finset.mem_univ (c, k)))
theorem send_mem (c : Dev nD) (x : Fin 6) : sendCell c x ∈ (barCells ∪ scCells : Finset (GSem nD τ sig)) := by
  have h := sc_mem c (sIx x); rwa [osem_send] at h
theorem land_mem (c : Dev nD) (x : Fin 6) : landCell c x ∈ (barCells ∪ scCells : Finset (GSem nD τ sig)) := by
  have h := sc_mem c (lIx x); rwa [osem_land] at h

/-- All the invariants under one map of names; round 0 of every barrier cell reached. -/
def records (K : GSem nD τ sig → ℕ) : sProp 𝕄 :=
  iprop((bigSep (barCells ∪ scCells) fun g => cellInv ER (rd B) (K g) g) ∗ bigSep barCells fun g => reached ER g 0)

instance records_persistent (K : GSem nD τ sig → ℕ) : BI.Persistent (records B K) := by unfold records; infer_instance

omit [FloatOps F] [Named F] in
theorem inv_at (K : GSem nD τ sig → ℕ) {g : GSem nD τ sig} (hg : g ∈ (barCells ∪ scCells : Finset (GSem nD τ sig))) :
    records B K ⊢ (cellInv ER (rd B) (K g) g : sProp 𝕄) := by
  unfold records; iintro ⟨H, -⟩; iapply (show (bigSep (barCells ∪ scCells) fun g => (cellInv ER (rd B) (K g) g : sProp 𝕄)) ⊢ cellInv ER (rd B) (K g) g from bigSep_elim hg); iexact H
omit [FloatOps F] [Named F] in
theorem reached_bar (K : GSem nD τ sig → ℕ) (c : Dev nD) : records B K ⊢ (reached ER (barCell c) 0 : sProp 𝕄) := by
  unfold records; iintro ⟨-, H⟩; iapply (show (bigSep barCells fun g => (reached ER g 0 : sProp 𝕄)) ⊢ reached ER (barCell c) 0 from bigSep_elim (Φ := fun g => (reached ER g 0 : sProp 𝕄)) (Finset.mem_map_of_mem barEmb (Finset.mem_univ c))); iexact H

end Cert.Exchange

end
-- ==== Proof.Steps.lean ====
/-
One lemma per kind of step of the kernel's body: loads and stores over owned memrefs, the transfer of a slot, the two waits on it.
-/
module

public import proofs.«01_k».proof.Proof.Protocol
public import Idealize.ShloMosaic.Lib.ViewIndex

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The body's weakest precondition on device `c`. -/
abbrev bodyWp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Access
variable (c : Dev nD) {cs : CoreSpace} {s : Shape} {e : EltTy} {m : Memref sig .tc cs s e} {r : Rect s}
  {α : Type} {Q : α → sProp (MT nD τ sig Unit (Elt F) ℕ UU ℕ)}

/-- A load of a rectangle of an owned memref. -/
theorem load_part {hl : m.view.LoadsAt r.toLoadRect} {k : (r.toLoadRect.shape.Idx → Elt F e) → Prog (TpuEff nD τ sig (Elt F) Λ₀ .tc) α}
    (X : s.Idx → Elt F e) :
    (owns (c : Thread nD τ) m fullShare X : sProp 𝕄)
      ⊢ iprop((owns (c : Thread nD τ) m fullShare X -∗ bodyWp c (k (fun j => X (r.emb j))) Q) -∗ bodyWp c (.op (.load m r.toLoadRect hl) k) Q) := by
  unfold owns
  iintro ⟨%f, %hf, H⟩ Hk
  subst hf
  iapply (wp_load_rect 𝒱₀ (c : Thread nD τ) none Set.univ (m := m) (r := r) (S := m.view.set) (View.set_slice_subset _ _)) $$ H
  iintro H
  iapply Hk
  iexists f
  isplitr; · ipureintro; rfl
  iexact H

/-- A load of a rectangle owned by itself. -/
theorem load_slice {hl : m.view.LoadsAt r.toLoadRect} {k : (r.toLoadRect.shape.Idx → Elt F e) → Prog (TpuEff nD τ sig (Elt F) Λ₀ .tc) α}
    (hr : ∀ a, r.stride a = 1) (X : r.shape.Idx → Elt F e) :
    (owns (c : Thread nD τ) (m.slice r hr) fullShare X : sProp 𝕄)
      ⊢ iprop((owns (c : Thread nD τ) (m.slice r hr) fullShare X -∗ bodyWp c (k X) Q) -∗ bodyWp c (.op (.load m r.toLoadRect hl) k) Q) := by
  unfold owns
  iintro ⟨%f, %hf, H⟩ Hk
  subst hf
  iapply (wp_load_rect 𝒱₀ (c : Thread nD τ) none Set.univ (m := m) (r := r) (S := (m.slice r hr).view.set) (subset_refl _)) $$ H
  iintro H
  iapply Hk
  iexists f
  isplitr; · ipureintro; rfl
  iexact H

omit [FloatOps F] [Named F] in
theorem read_store (f : m.view.ty.Contents (Elt F)) (w : r.shape.Idx → Elt F e) :
    m.view.read (Elt F) ((m.view.slice r).write (Elt F) f w Finset.univ) = r.overlay (m.view.read (Elt F) f) w := by
  funext j
  by_cases hj : j ∈ r.set
  · obtain ⟨i, rfl⟩ := r.exists_idx_of_mem hj
    change m.view.read (Elt F) _ (r.emb i) = r.overlay _ w (r.emb i)
    rw [Rect.overlay_emb, View.read_slice_write_emb r f w (Finset.mem_univ i)]
  · rw [Rect.overlay_of_not_mem _ _ _ hj, View.read_slice_write_of_not_mem r f w Finset.univ (by rw [Rect.map_emb_univ]; exact hj)]

/-- A store to a rectangle of an owned memref. -/
theorem store_part {w : r.shape.Idx → Elt F e} {hx : (m.access r).Stores Finset.univ} {hm : Finset.univ = Finset.univ ∨ ∀ a, r.stride a = 1}
    {k : PUnit → Prog (TpuEff nD τ sig (Elt F) Λ₀ .tc) α} (X : s.Idx → Elt F e) :
    (owns (c : Thread nD τ) m fullShare X : sProp 𝕄)
      ⊢ iprop((owns (c : Thread nD τ) m fullShare (r.overlay X w) -∗ bodyWp c (k ⟨⟩) Q) -∗ bodyWp c (.op (.store m r w Finset.univ hx hm) k) Q) := by
  unfold owns
  iintro ⟨%f, %hf, H⟩ Hk
  subst hf
  iapply (wp_store 𝒱₀ (c : Thread nD τ) none Set.univ (m := m) (r := r) (Mk := Finset.univ) (S := m.view.set) (View.set_slice_subset _ _)) $$ H
  iintro H
  iapply Hk
  iexists _
  isplitr; rotate_left
  · iexact H
  ipureintro; exact read_store f w

/-- A store to a rectangle owned by itself. -/
theorem store_slice {w : r.shape.Idx → Elt F e} {hx : (m.access r).Stores Finset.univ} {hm : Finset.univ = Finset.univ ∨ ∀ a, r.stride a = 1}
    {k : PUnit → Prog (TpuEff nD τ sig (Elt F) Λ₀ .tc) α} (hr : ∀ a, r.stride a = 1) (X : r.shape.Idx → Elt F e) :
    (owns (c : Thread nD τ) (m.slice r hr) fullShare X : sProp 𝕄)
      ⊢ iprop((owns (c : Thread nD τ) (m.slice r hr) fullShare w -∗ bodyWp c (k ⟨⟩) Q) -∗ bodyWp c (.op (.store m r w Finset.univ hx hm) k) Q) := by
  unfold owns
  iintro ⟨%f, %hf, H⟩ Hk
  iapply (wp_store 𝒱₀ (c : Thread nD τ) none Set.univ (m := m) (r := r) (Mk := Finset.univ) (S := (m.slice r hr).view.set) (subset_refl _)) $$ H
  iintro H
  iapply Hk
  iexists _
  isplitr; rotate_left
  · iexact H
  ipureintro; exact View.read_write_univ (v := m.view.slice r) f w

end Access

section Exchange
variable (B : Blocks F) (K : GSem nD τ sig → ℕ) (c : Dev nD) {α : Type} {Q : α → sProp (MT nD τ sig Unit (Elt F) ℕ UU ℕ)}
  {k : PUnit → Prog (TpuEff nD τ sig (Elt F) Λ₀ .tc) α}

/-- What device `c` holds of a slot's transfer from the start of the body: its two cells' positions, the landing's credit, the two
    duties it pays, round 0 of its own two cells. -/
def slotKit (c : Dev nD) (x : Fin 6) : sProp 𝕄 :=
  iprop(atPos ER (sendCell c x) 0 ∅ 0 ∗ atPos ER (landCell c x) 0 ∅ 0 ∗ cred (tallyAt (landCell c x) () N)
    ∗ dutyTok ER (sendCell c x) 0 0 ∗ dutyTok ER (landCell (pr (stp x) c) x) 0 0 ∗ reached ER (sendCell c x) 0)

/-- After the transfer is started. -/
def slotOut (c : Dev nD) (x : Fin 6) : sProp 𝕄 :=
  iprop(atPos ER (sendCell c x) 0 ∅ 0 ∗ atPos ER (landCell c x) 0 ∅ 0 ∗ cred (tallyAt (landCell c x) () N) ∗ cred (tallyAt (sendCell c x) () N))

/-- After the wait on its sending half. -/
def slotSent (c : Dev nD) (x : Fin 6) : sProp 𝕄 :=
  iprop(atPos ER (sendCell c x) 1 ∅ 0 ∗ atPos ER (landCell c x) 0 ∅ 0 ∗ cred (tallyAt (landCell c x) () N))

/-- After both waits. -/
def slotEnd (c : Dev nD) (x : Fin 6) : sProp 𝕄 :=
  iprop(atPos ER (sendCell c x) 1 ∅ 0 ∗ atPos ER (landCell c x) 1 ∅ 0)

/-- The transfer of slot `x` to the partner. -/
theorem send_slot (x : Fin 6) (n : Dev nD) (hn : n = pr (stp x) c)
    {src dst : Memref sig .tc .vmem S128x512 .bf16} (hs : src = commQ x) (hd : dst = landQ x) {sS sem : SemLoc sig} (h1 : sS = .dma (sendS x)) (h2 : sem = .dma (landS x))
    {hsc : dst.view.ref.isScScratch = false}
    {hsrc : src.view.WordExact} {hdst : dst.view.WordExact}
    {hsem : DmaTarget.Typed .vmem sem (.remote (Dev.tc n : Thread nD τ) dst sS hsc)} (W : Waits sig Unit) :
    iprop(records B K ∗ slotKit c x ∗ commO c x (B x c) ∗ room (pr (stp x) c) x ∗ owes (c : Thread nD τ) (ow c x.val) W)
      ⊢ iprop(((slotOut c x ∗ owes (c : Thread nD τ) (ow c (x.val + 1)) W) -∗ bodyWp c (k ⟨⟩) Q)
          -∗ bodyWp c (.op (.enqueueDma src (.remote (Dev.tc n : Thread nD τ) dst sS hsc) sem hsrc hdst hsem) k) Q) := by
  subst hn hs hd h1 h2
  unfold slotKit slotOut commO room landO owns
  iintro ⟨#HR, ⟨Ha, Hb, Hc, Ht, Ht', #Hr⟩, ⟨%fs, %hfs, Hs⟩, ⟨⟨%Y, %fd, -, Hd⟩, #Hr'⟩, HO⟩ Hk
  iapply (Rounds.wp_send_pointsTo 𝒱₀ ER (rd B) (c : Thread nD τ) none (c' := (Dev.tc (pr (stp x) c) : Thread nD τ)) (src := commQ x) (dst := landQ x)
    (κ₁ := K (sendCell c x)) (κ₂ := K (landCell (pr (stp x) c) x)) (r₁ := 0) (r₂ := 0) (d₁ := 0) (d₂ := 0) (fs := fs) (fd := fd) (q := fullShare)
    (by rw [duties_send]; exact Finset.mem_singleton_self _) (by rw [duties_land]; exact Finset.mem_singleton_self _)
    () () N rfl (amount_send B c x 0) (amount_land B (pr (stp x) c) x 0) (ow c (x.val + 1)) (ow_step c x) (W := W)
    (by
      rw [payload_send]; unfold commO owns
      rw [View.set_reshape]
      iintro H; iexists fs; isplitr; · ipureintro; exact hfs
      iexact H)
    (by
      rw [payload_land, pr_pr]; unfold landO owns
      rw [View.set_reshape]
      iintro H; iexists _; isplitr; rotate_left
      · iexact H
      ipureintro
      funext j
      obtain ⟨i, rfl⟩ := (Shape.reshapeEquiv (squeezes_S1x1x128x512_S128x512).numel_eq).surjective j
      refine (View.read_write_reshape (landM x).view (squeezes_S1x1x128x512_S128x512).numel_eq fd _ i).trans ?_
      rw [← hfs]; rfl)) $$ [Hs Hd HO Ht Ht']
  · isplitr; · iapply (inv_at B K (send_mem c x)); iexact HR
    isplitr; · iapply (inv_at B K (land_mem (pr (stp x) c) x)); iexact HR
    isplitl [Hs]; · rw [View.set_reshape]; iexact Hs
    isplitl [Hd]; · rw [View.set_reshape]; iexact Hd
    isplitl [HO]; · iexact HO
    isplitl [Ht]; · iexact Ht
    isplitr; · iexact Hr
    isplitl [Ht']; · iexact Ht'
    iexact Hr'
  iintro ⟨Hcs, HO⟩
  iapply Hk
  isplitr [HO]
  · isplitl [Ha]; · iexact Ha
    isplitl [Hb]; · iexact Hb
    isplitl [Hc] <;> iassumption
  iexact HO

/-- The wait on the sending half of slot `x`'s transfer, while the transfers from slot `n` on are owed: the slot comes back. -/
theorem wait_send (x : Fin 6) (n : ℕ) {sem : DmaSem sig} (h1 : sem = sendS x) {src dst : Memref sig .tc .vmem S128x512 .bf16} (hd : dst.view.dmaCredit = N)
    {hsrc : src.view.WordExact} {hdst : dst.view.WordExact} (W : Waits sig Unit) :
    iprop(records B K ∗ levAts L lv ∗ slotOut c x ∗ owes (c : Thread nD τ) (ow c n) W)
      ⊢ iprop(((slotSent c x ∗ commO c x (B x c) ∗ owes (c : Thread nD τ) (ow c n) (insert (SemLoc.dma (sendS x), ()) W)) -∗ bodyWp c (k ⟨⟩) Q)
          -∗ bodyWp c (.op (.waitDma2 sem src dst hsrc hdst) k) Q) := by
  subst h1
  unfold slotOut slotSent
  iintro ⟨#HR, #Hlev, ⟨Ha, Hb, Hc, Hs⟩, HO⟩ Hk
  iapply (Rounds.wp_wait_rest_token 𝒱₀ ER (rd B) (c : Thread nD τ) none (κ := K (sendCell c x))
      (wpE_waitDma2_eq 𝒱₀ (c : Thread nD τ) none Set.univ) (Set.mem_univ _) () (O := ow c n) (W := W) (R := 0) (m := 0) (T := ∅)
      (by rw [Nat.zero_add, expect_send, hd])) $$ [Hs HO Ha]
  · isplitr; · iapply (inv_at B K (send_mem c x)); iexact HR
    isplitl [Hs]; · rw [hd]; iexact Hs
    isplitl [HO]; · iexact HO
    isplitr; · iapply (mayWait c (.dma (sendS x)) n (by rw [lv_low c _ (send_lt x)]; omega)); iexact Hlev
    iexact Ha
  iintro ⟨HO, Ha, -, Hp⟩
  ihave Hp := (Entails.of_eq (rest_send B c x)) $$ Hp
  iapply Hk
  isplitl [Ha Hb Hc]
  · isplitl [Ha]; · iexact Ha
    isplitl [Hb] <;> iassumption
  isplitl [Hp] <;> iassumption

/-- The wait on the landing half: the partner's block, in the landing slot. -/
theorem wait_land (x : Fin 6) (n : ℕ) (hxn : x.val < n) {sem : DmaSem sig} (h1 : sem = landS x) {src dst : Memref sig .tc .vmem S128x512 .bf16}
    (hd : dst.view.dmaCredit = N) {hsrc : src.view.WordExact} {hdst : dst.view.WordExact} (W : Waits sig Unit) :
    iprop(records B K ∗ levAts L lv ∗ slotSent c x ∗ owes (c : Thread nD τ) (ow c n) W)
      ⊢ iprop(((slotEnd c x ∗ landO c x (B x (pr (stp x) c)) ∗ owes (c : Thread nD τ) (ow c n) (insert (SemLoc.dma (landS x), ()) W)) -∗ bodyWp c (k ⟨⟩) Q)
          -∗ bodyWp c (.op (.waitDma2 sem src dst hsrc hdst) k) Q) := by
  subst h1
  unfold slotSent slotEnd
  iintro ⟨#HR, #Hlev, ⟨Ha, Hb, Hc⟩, HO⟩ Hk
  iapply (Rounds.wp_wait_rest_token 𝒱₀ ER (rd B) (c : Thread nD τ) none (κ := K (landCell c x))
      (wpE_waitDma2_eq 𝒱₀ (c : Thread nD τ) none Set.univ) (Set.mem_univ _) () (O := ow c n) (W := W) (R := 0) (m := 0) (T := ∅)
      (by rw [Nat.zero_add, expect_land, hd])) $$ [Hc HO Hb]
  · isplitr; · iapply (inv_at B K (land_mem c x)); iexact HR
    isplitl [Hc]; · rw [hd]; iexact Hc
    isplitl [HO]; · iexact HO
    isplitr; · iapply (mayWait c (.dma (landS x)) n (by rw [lv_land]; omega)); iexact Hlev
    iexact Hb
  iintro ⟨HO, Hb, -, Hp⟩
  ihave Hp := (Entails.of_eq (rest_land B c x)) $$ Hp
  iapply Hk
  isplitl [Ha Hb]
  · isplitl [Ha] <;> iassumption
  isplitl [Hp] <;> iassumption

/-- A finished slot's two cells close at zero. -/
theorem close_slot (x : Fin 6) :
    iprop(records B K ∗ slotEnd c x) ⊢ (|={Set.univ}=> iprop(semVal (sendCell c x) 0 ∗ semVal (landCell c x) 0) : sProp 𝕄) := by
  unfold slotEnd
  iintro ⟨#HR, Ha, Hb⟩
  imod (Rounds.cell_close ER (rd B) (Set.mem_univ (K (sendCell c x))) (fun h => h) (R := 0 + 1) (duties_later B (sendCell c x))) $$ [Ha] with Hz
  · isplitr; · iapply (inv_at B K (send_mem c x)); iexact HR
    iexact Ha
  imod (Rounds.cell_close ER (rd B) (Set.mem_univ (K (landCell c x))) (fun h => h) (R := 0 + 1) (duties_later B (landCell c x))) $$ [Hb] with Hz'
  · isplitr; · iapply (inv_at B K (land_mem c x)); iexact HR
    iexact Hb
  imodintro
  isplitl [Hz] <;> iassumption

/-- The signal to the partner of step `r`: this device's two landing slots of that step go with it. -/
theorem signal_step (r : Fin 3) (n : Dev nD) (hn : n = pr r c) {sem : Sem sig} (hs : sem = barS) {j : ℕ} (hj : 1 = j)
    (O : CellTallies nD τ sig Unit) {O' : CellTallies nD τ sig Unit} (hO : O' = O + tallyAt (barCell (pr r c)) () 1) (W : Waits sig Unit) :
    iprop(records B K ∗ dutyTok ER (barCell (pr r c)) 0 r ∗ room c (lo r) ∗ room c (hi r) ∗ owes (c : Thread nD τ) O' W)
      ⊢ iprop((owes (c : Thread nD τ) O W -∗ bodyWp c (k ⟨⟩) Q) -∗ bodyWp c (.op (.semSignal (Dev.tc n : Thread nD τ) sem j) k) Q) := by
  subst hn hs hj hO
  iintro ⟨#HR, Ht, H1, H2, HO⟩ Hk
  iapply (Rounds.wp_signal 𝒱₀ ER (rd B) (c : Thread nD τ) none (dst := (pr r c : Thread nD τ)) (κ := K (barCell (pr r c)))
      (d := r) (by rw [duties_bar]; exact Finset.mem_univ _) (amount_bar B (pr r c) r) () O rfl) $$ [Ht H1 H2 HO]
  · isplitr; · iapply (inv_at B K (bar_mem (pr r c))); iexact HR
    isplitl [HO]; · iexact HO
    isplitl [Ht]; · iexact Ht
    isplitl [H1 H2]
    · rw [payload_bar]; unfold barPay; rw [pr_pr]
      isplitl [H1] <;> iassumption
    iapply (reached_bar B K (pr r c)); iexact HR
  iintro HO
  iapply Hk; iexact HO

/-- The wait for the three partners: their landing slots come with it. -/
theorem wait_bar {sem : Sem sig} (hs : sem = barS) {j : ℕ} (hj : 3 = j) (W : Waits sig Unit) :
    iprop(records B K ∗ levAts L lv ∗ cred (tallyAt (barCell c) () 3) ∗ atPos ER (barCell c) 0 ∅ 0 ∗ owes (c : Thread nD τ) (ow c 0) W)
      ⊢ iprop(((atPos ER (barCell c) 1 ∅ 0 ∗ (barPay c 0 ∗ barPay c 1 ∗ barPay c 2) ∗ owes (c : Thread nD τ) (ow c 0) (insert (SemLoc.reg barS, ()) W)) -∗ bodyWp c (k ⟨⟩) Q)
          -∗ bodyWp c (.op (.semWait sem j) k) Q) := by
  subst hs hj
  iintro ⟨#HR, #Hlev, Hc, Ha, HO⟩ Hk
  iapply (Rounds.wp_wait_rest_token 𝒱₀ ER (rd B) (c : Thread nD τ) none (κ := K (barCell c))
      (wpE_semWait_eq 𝒱₀ (c : Thread nD τ) none Set.univ) (Set.mem_univ _) () (O := ow c 0) (W := W) (R := 0) (m := 0) (T := ∅)
      (by rw [expect_bar])) $$ [Hc HO Ha]
  · isplitr; · iapply (inv_at B K (bar_mem c)); iexact HR
    isplitl [Hc]; · iexact Hc
    isplitl [HO]; · iexact HO
    isplitr; · iapply (mayWait c (.reg barS) 0 (by rw [lv_bar]; omega)); iexact Hlev
    iexact Ha
  iintro ⟨HO, Ha, -, Hp⟩
  ihave Hp := (Entails.of_eq (rest_bar B c)) $$ Hp
  iapply Hk
  isplitl [Ha]; · iexact Ha
  isplitl [Hp] <;> iassumption

theorem close_bar : iprop(records B K ∗ atPos ER (barCell c) 1 ∅ 0) ⊢ (|={Set.univ}=> semVal (barCell c) 0 : sProp 𝕄) := by
  iintro ⟨#HR, Ha⟩
  imod (Rounds.cell_close ER (rd B) (Set.mem_univ (K (barCell c))) (fun h => h) (R := 0 + 1) (duties_later B (barCell c))) $$ [Ha] with Hz
  · isplitr; · iapply (inv_at B K (bar_mem c)); iexact HR
    iexact Ha
  imodintro; iexact Hz

end Exchange

end Cert.Exchange

end
-- ==== Proof.Contents.lean ====
/-
What every buffer of the kernel holds, from the five inputs of each device: the attention context of a row block, its product with
the output weights, and the three sums over partners.
-/
module

public import proofs.«01_k».proof.Proof.Steps

@[expose] public section

noncomputable section

namespace Cert.Exchange

open Cert.KernelIdeal Cert.KernelIdeal.Gen
open Idealize.ShloMosaic
open Idealize.ShloMosaic.TcCoe

variable {F : FTy → Type} [FloatOps F] [Named F]

/-! ## Blocks of the inputs, as the body loads them -/

def xB (b : Fin 2) (X : S2x128x512.Idx → Elt F .bf16) : S1x128x512.Idx → Elt F .bf16 :=
  fun j => X ((Rect.unit (s := S2x128x512) ![b.val, 0, 0] S1x128x512.size (by revert b; decide)).emb j)
def qB (X : S512x256.Idx → Elt F .bf16) : S512x256.Idx → Elt F .bf16 :=
  fun j => X ((Rect.unit (s := S512x256) ![0, 0] S512x256.size inb_S512x256_S512x256_0_0).emb j)
def wB (X : S256x512.Idx → Elt F .bf16) : S256x512.Idx → Elt F .bf16 :=
  fun j => X ((Rect.unit (s := S256x512) ![0, 0] S256x512.size inb_S256x512_S256x512_0_0).emb j)
def cB (X : S128x256.Idx → Elt F .bf16) : S128x256.Idx → Elt F .bf16 :=
  fun j => X ((Rect.unit (s := S128x256) ![0, 0] S128x256.size inb_S128x256_S128x256_0_0).emb j)
/-- Row block `b`, head `h` of the keys or the values. -/
def kB (b : Fin 2) (h : Fin 4) (X : S2x128x256.Idx → Elt F .bf16) : S1x128x64.Idx → Elt F .bf16 :=
  fun j => X ((Rect.unit (s := S2x128x256) ![b.val, 0, 64 * h.val] S1x128x64.size (by revert b h; decide)).emb j)
/-- Head `h`'s columns of the context. -/
def colR (h : Fin 4) : Rect S128x256 := Rect.unit (s := S128x256) ![0, 64 * h.val] S128x64.size (by revert h; decide)
/-- Row block `b` of the result. -/
def rowR (b : Fin 2) : Rect S2x128x512 := Rect.unit (s := S2x128x512) ![b.val, 0, 0] S1x128x512.size (by revert b; decide)

/-- The context with its four column blocks replaced. -/
def put4 (G : S128x256.Idx → Elt F .bf16) (p : Fin 4 → S128x64.Idx → Elt F .bf16) : S128x256.Idx → Elt F .bf16 :=
  (colR 3).overlay ((colR 2).overlay ((colR 1).overlay ((colR 0).overlay G (p 0)) (p 1)) (p 2)) (p 3)
/-- The result with its two row blocks replaced. -/
def put2 (G : S2x128x512.Idx → Elt F .bf16) (p : Fin 2 → S1x128x512.Idx → Elt F .bf16) : S2x128x512.Idx → Elt F .bf16 :=
  (rowR 1).overlay ((rowR 0).overlay G (p 0)) (p 1)

/-- The column and head of a context position. -/
def colOf (i : S128x256.Idx) : S128x64.Idx := Fin.cons (i 0) (Fin.cons ⟨(i 1).val % 64, Nat.mod_lt _ (by decide)⟩ finZeroElim)
def headOf (i : S128x256.Idx) : Fin 4 := ⟨(i 1).val / 64, by have h : (i 1).val < 256 := (i 1).isLt; omega⟩
/-- The context whose four column blocks are `p`. -/
def ctxV (p : Fin 4 → S128x64.Idx → Elt F .bf16) : S128x256.Idx → Elt F .bf16 := fun i => p (headOf i) (colOf i)

def blkOf (i : S2x128x512.Idx) : Fin 2 := ⟨(i 0).val, (i 0).isLt⟩
def rowOf (i : S2x128x512.Idx) : S1x128x512.Idx := Fin.cons ⟨0, by decide⟩ (Fin.cons (i 1) (Fin.cons (i 2) finZeroElim))
/-- The result whose two row blocks are `p`. -/
def outV (p : Fin 2 → S1x128x512.Idx → Elt F .bf16) : S2x128x512.Idx → Elt F .bf16 := fun i => p (blkOf i) (rowOf i)

theorem colR_emb (i : S128x256.Idx) : (colR (headOf i)).emb (colOf i) = i := by
  funext a
  apply Fin.ext
  match a with
  | ⟨0, _⟩ => show 0 + 1 * (i 0).val = (i 0).val; omega
  | ⟨1, _⟩ => show 64 * ((i 1).val / 64) + 1 * ((i 1).val % 64) = (i 1).val; omega

theorem colR_off {h : Fin 4} {i : S128x256.Idx} (hi : headOf i ≠ h) : i ∉ (colR h).set := by
  intro hm
  obtain ⟨j, rfl⟩ := (colR h).exists_idx_of_mem hm
  apply hi
  apply Fin.ext
  show (64 * h.val + 1 * (j 1).val) / 64 = h.val
  have hj : (j 1).val < 64 := (j 1).isLt
  omega

theorem over_head {α : Type} (G : S128x256.Idx → α) (h : Fin 4) (p : S128x64.Idx → α) (i : S128x256.Idx) :
    (colR h).overlay G p i = if headOf i = h then p (colOf i) else G i := by
  by_cases e : headOf i = h
  · rw [if_pos e]
    subst e
    have hv := Rect.overlay_emb (colR (headOf i)) G p (colOf i)
    rw [colR_emb i] at hv
    exact hv
  · rw [if_neg e]
    exact Rect.overlay_of_not_mem _ _ _ (colR_off e)

theorem put4_eq (G : S128x256.Idx → Elt F .bf16) (p : Fin 4 → S128x64.Idx → Elt F .bf16) : put4 G p = ctxV p := by
  funext i
  unfold put4 ctxV
  rw [over_head, over_head, over_head, over_head]
  generalize headOf i = h
  fin_cases h <;> rfl

theorem rowR_emb (i : S2x128x512.Idx) : (rowR (blkOf i)).emb (rowOf i) = i := by
  funext a
  apply Fin.ext
  match a with
  | ⟨0, _⟩ => show (i 0).val + 1 * 0 = (i 0).val; omega
  | ⟨1, _⟩ => show 0 + 1 * (i 1).val = (i 1).val; omega
  | ⟨2, _⟩ => show 0 + 1 * (i 2).val = (i 2).val; omega

theorem rowR_off {b : Fin 2} {i : S2x128x512.Idx} (hi : blkOf i ≠ b) : i ∉ (rowR b).set := by
  intro hm
  obtain ⟨j, rfl⟩ := (rowR b).exists_idx_of_mem hm
  apply hi
  apply Fin.ext
  show b.val + 1 * (j 0).val = b.val
  have hj : (j 0).val < 1 := (j 0).isLt
  omega

theorem over_row {α : Type} (G : S2x128x512.Idx → α) (b : Fin 2) (p : S1x128x512.Idx → α) (i : S2x128x512.Idx) :
    (rowR b).overlay G p i = if blkOf i = b then p (rowOf i) else G i := by
  by_cases e : blkOf i = b
  · rw [if_pos e]
    subst e
    have hv := Rect.overlay_emb (rowR (blkOf i)) G p (rowOf i)
    rw [rowR_emb i] at hv
    exact hv
  · rw [if_neg e]
    exact Rect.overlay_of_not_mem _ _ _ (rowR_off e)

theorem put2_eq (G : S2x128x512.Idx → Elt F .bf16) (p : Fin 2 → S1x128x512.Idx → Elt F .bf16) : put2 G p = outV p := by
  funext i
  unfold put2 outV
  rw [over_row, over_row]
  generalize blkOf i = b
  fin_cases b <;> rfl

/-! ## The values -/

/-- The five inputs of every device. -/
structure Ins (F : FTy → Type) where
  x : Dev nD → S2x128x512.Idx → Elt F .bf16
  q : Dev nD → S512x256.Idx → Elt F .bf16
  k : Dev nD → S2x128x256.Idx → Elt F .bf16
  v : Dev nD → S2x128x256.Idx → Elt F .bf16
  o : Dev nD → S256x512.Idx → Elt F .bf16

/-- The block mask. -/
def maskV : IVec S128x128 1 := k0_pay8 (k0_pay4 k0_pay2 k0_pay3 1#32) (k0_pay6 k0_pay2 k0_pay3 1#32) k0_pay7 4#32 0#32

variable (I : Ins F)

def q0 (c : Dev nD) : FVec F S128x256 .f32 := k0_pay9 (xB 0 (I.x c)) (qB (I.q c))
def q1 (c : Dev nD) : FVec F S128x256 .f32 := k0_pay19 (xB 1 (I.x c)) (qB (I.q c))

/-- The four heads' contexts of row block 0; -/
def heads0 (c : Dev nD) : Fin 4 → S128x64.Idx → Elt F .bf16 := fun
  | 0 => k0_pay13 (k0_pay11 (k0_pay4 k0_pay2 k0_pay3 1#32) (k0_pay6 k0_pay2 k0_pay3 1#32) k0_pay7 4#32 0#32 (xB 0 (I.x c)) (qB (I.q c)) (kB 0 0 (I.k c)) (kB 0 0 (I.v c)))
      (k0_pay12 (k0_pay4 k0_pay2 k0_pay3 1#32) (k0_pay6 k0_pay2 k0_pay3 1#32) k0_pay7 4#32 0#32 (xB 0 (I.x c)) (qB (I.q c)) (kB 0 0 (I.k c)))
  | 1 => k0_pay14 maskV (q0 I c) (kB 0 1 (I.k c)) (kB 0 1 (I.v c))
  | 2 => k0_pay16 (k0_pay15 maskV (q0 I c) (kB 0 2 (I.k c))) (kB 0 2 (I.v c))
  | 3 => k0_pay17 maskV (q0 I c) (kB 0 3 (I.k c)) (kB 0 3 (I.v c))
/-- of row block 1. -/
def heads1 (c : Dev nD) : Fin 4 → S128x64.Idx → Elt F .bf16 := fun
  | 0 => k0_pay20 maskV (q1 I c) (kB 1 0 (I.k c)) (kB 1 0 (I.v c))
  | 1 => k0_pay24 (k0_pay22 maskV (q1 I c) (kB 1 1 (I.k c)) (kB 1 1 (I.v c))) (k0_pay23 maskV (q1 I c) (kB 1 1 (I.k c)))
  | 2 => k0_pay25 maskV (q1 I c) (kB 1 2 (I.k c)) (kB 1 2 (I.v c))
  | 3 => k0_pay27 (k0_pay26 maskV (q1 I c) (kB 1 3 (I.k c))) (kB 1 3 (I.v c))

def S0 (c : Dev nD) : S1x1x128x512.Idx → Elt F .bf16 := k0_pay18 (cB (ctxV (heads0 I c))) (wB (I.o c))
def S1 (c : Dev nD) : S1x1x128x512.Idx → Elt F .bf16 := k0_pay28 (cB (ctxV (heads1 I c))) (wB (I.o c))
def S2 (c : Dev nD) : S1x1x128x512.Idx → Elt F .bf16 := k0_pay30 (k0_pay29 (S0 I c)) (S0 I (pr 0 c))
def S3 (c : Dev nD) : S1x1x128x512.Idx → Elt F .bf16 := k0_pay31 (S1 I c) (S1 I (pr 0 c))
def S4 (c : Dev nD) : S1x1x128x512.Idx → Elt F .bf16 := k0_pay34 (k0_pay32 (S2 I c)) (k0_pay33 (S2 I (pr 1 c)))
def S5 (c : Dev nD) : S1x1x128x512.Idx → Elt F .bf16 := k0_pay35 (S3 I c) (S3 I (pr 1 c))

/-- What the six slots hold. -/
def blocks : Blocks F := fun
  | 0 => S0 I | 1 => S1 I | 2 => S2 I | 3 => S3 I | 4 => S4 I | 5 => S5 I

/-- The kernel's result. -/
def outs (c : Dev nD) : Fin 2 → S1x128x512.Idx → Elt F .bf16 := fun
  | 0 => k0_pay37 (k0_pay36 (S4 I c) (S4 I (pr 2 c)))
  | 1 => k0_pay1 (k0_pay38 (S5 I c)) (S5 I (pr 2 c))
def outB (c : Dev nD) : S2x128x512.Idx → Elt F .bf16 := outV (outs I c)

end Cert.Exchange

end
-- ==== Proof.Parts.lean ====
/-
The kernel's body on one device, one lemma per part of its text, at any contents of the slots that agree with the text's payloads.
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The buffers the body addresses. -/
abbrev here {β : Sort _} (p : (a0 : Memref sig .tc .vmem S2x128x512 .bf16) → a0.IsWhole → (a1 : Memref sig .tc .vmem S512x256 .bf16) → a1.IsWhole → (a2 : Memref sig .tc .vmem S2x128x256 .bf16) → a2.IsWhole → (a3 : Memref sig .tc .vmem S2x128x256 .bf16) → a3.IsWhole → (a4 : Memref sig .tc .vmem S256x512 .bf16) → a4.IsWhole → (a5 : Memref sig .tc .vmem S2x128x512 .bf16) → a5.IsWhole → (a6 : Memref sig .tc .vmem S2x3x128x512 .bf16) → a6.IsWhole → (a7 : Memref sig .tc .vmem S2x3x128x512 .bf16) → a7.IsWhole → (a8 : Memref sig .tc .vmem S128x256 .bf16) → a8.IsWhole → DmaSems sig S2x3 → DmaSems sig S2x3 → β) : β :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4

section Own
variable (c : Dev nD)
abbrev wX (X : S2x128x512.Idx → Elt F .bf16) : sProp 𝕄 := owns (c : Thread nD τ) (Memref.whole cc0_stg0_0) fullShare X
abbrev wQ (X : S512x256.Idx → Elt F .bf16) : sProp 𝕄 := owns (c : Thread nD τ) (Memref.whole cc0_stg1_0) fullShare X
abbrev wK (X : S2x128x256.Idx → Elt F .bf16) : sProp 𝕄 := owns (c : Thread nD τ) (Memref.whole cc0_stg2_0) fullShare X
abbrev wV (X : S2x128x256.Idx → Elt F .bf16) : sProp 𝕄 := owns (c : Thread nD τ) (Memref.whole cc0_stg3_0) fullShare X
abbrev wO (X : S256x512.Idx → Elt F .bf16) : sProp 𝕄 := owns (c : Thread nD τ) (Memref.whole cc0_stg4_0) fullShare X
abbrev wR (X : S2x128x512.Idx → Elt F .bf16) : sProp 𝕄 := owns (c : Thread nD τ) (Memref.whole cc0_stg5_0) fullShare X
abbrev wC (X : S128x256.Idx → Elt F .bf16) : sProp 𝕄 := owns (c : Thread nD τ) (Memref.whole cc0_scratch2) fullShare X
/-- What device `c` owes once the transfers of the slots before `n` are started. -/
def due (n : ℕ) : sProp 𝕄 := iprop(∃ W : Waits sig Unit, owes (c : Thread nD τ) (ow c n) W)
/-- The duty of the signal of step `r`, and what the signal hands over. -/
def offer (r : Fin 3) : sProp 𝕄 := iprop(dutyTok ER (barCell (pr r c)) 0 r ∗ room (F := F) c (lo r) ∗ room c (hi r))
end Own

section Loads
variable (c : Dev nD) {α : Type} {Q : α → sProp (MT nD τ sig Unit (Elt F) ℕ UU ℕ)}

theorem body_ret (a : α) : Q a ⊢ bodyWp c (.ret a) Q := by
  show Q a ⊢ wp frame _ _ _ _
  rw [wp_ret]; iintro H; imodintro; iexact H

theorem load_x (b : Fin 2) (X : S2x128x512.Idx → Elt F .bf16) {inb : ∀ a, (![b.val, 0, 0] : Fin _ → ℕ) a + S1x128x512.size a ≤ S2x128x512.size a} {hl} {k : (S1x128x512.Idx → Elt F .bf16) → Prog (TpuEff nD τ sig (Elt F) Λ₀ .tc) α} :
    (owns (c : Thread nD τ) (Memref.whole cc0_stg0_0) fullShare X : sProp 𝕄)
      ⊢ iprop((owns (c : Thread nD τ) (Memref.whole cc0_stg0_0) fullShare X -∗ bodyWp c (k (xB b X)) Q)
          -∗ bodyWp c (.op (.load (Memref.whole cc0_stg0_0) (Rect.unit (s := S2x128x512) ![b.val, 0, 0] S1x128x512.size inb).toLoadRect hl) k) Q) :=
  load_part (m := Memref.whole cc0_stg0_0) (r := Rect.unit (s := S2x128x512) ![b.val, 0, 0] S1x128x512.size inb) (hl := hl) (k := k) c X
theorem load_q (X : S512x256.Idx → Elt F .bf16) {inb : ∀ a, (![0, 0] : Fin _ → ℕ) a + S512x256.size a ≤ S512x256.size a} {hl} {k : (S512x256.Idx → Elt F .bf16) → Prog (TpuEff nD τ sig (Elt F) Λ₀ .tc) α} :
    (owns (c : Thread nD τ) (Memref.whole cc0_stg1_0) fullShare X : sProp 𝕄)
      ⊢ iprop((owns (c : Thread nD τ) (Memref.whole cc0_stg1_0) fullShare X -∗ bodyWp c (k (qB X)) Q)
          -∗ bodyWp c (.op (.load (Memref.whole cc0_stg1_0) (Rect.unit (s := S512x256) ![0, 0] S512x256.size inb).toLoadRect hl) k) Q) :=
  load_part (m := Memref.whole cc0_stg1_0) (r := Rect.unit (s := S512x256) ![0, 0] S512x256.size inb) (hl := hl) (k := k) c X
theorem load_k (b : Fin 2) (h : Fin 4) (X : S2x128x256.Idx → Elt F .bf16) {inb : ∀ a, (![b.val, 0, 64 * h.val] : Fin _ → ℕ) a + S1x128x64.size a ≤ S2x128x256.size a} {hl} {k : (S1x128x64.Idx → Elt F .bf16) → Prog (TpuEff nD τ sig (Elt F) Λ₀ .tc) α} :
    (owns (c : Thread nD τ) (Memref.whole cc0_stg2_0) fullShare X : sProp 𝕄)
      ⊢ iprop((owns (c : Thread nD τ) (Memref.whole cc0_stg2_0) fullShare X -∗ bodyWp c (k (kB b h X)) Q)
          -∗ bodyWp c (.op (.load (Memref.whole cc0_stg2_0) (Rect.unit (s := S2x128x256) ![b.val, 0, 64 * h.val] S1x128x64.size inb).toLoadRect hl) k) Q) :=
  load_part (m := Memref.whole cc0_stg2_0) (r := Rect.unit (s := S2x128x256) ![b.val, 0, 64 * h.val] S1x128x64.size inb) (hl := hl) (k := k) c X
theorem load_v (b : Fin 2) (h : Fin 4) (X : S2x128x256.Idx → Elt F .bf16) {inb : ∀ a, (![b.val, 0, 64 * h.val] : Fin _ → ℕ) a + S1x128x64.size a ≤ S2x128x256.size a} {hl} {k : (S1x128x64.Idx → Elt F .bf16) → Prog (TpuEff nD τ sig (Elt F) Λ₀ .tc) α} :
    (owns (c : Thread nD τ) (Memref.whole cc0_stg3_0) fullShare X : sProp 𝕄)
      ⊢ iprop((owns (c : Thread nD τ) (Memref.whole cc0_stg3_0) fullShare X -∗ bodyWp c (k (kB b h X)) Q)
          -∗ bodyWp c (.op (.load (Memref.whole cc0_stg3_0) (Rect.unit (s := S2x128x256) ![b.val, 0, 64 * h.val] S1x128x64.size inb).toLoadRect hl) k) Q) :=
  load_part (m := Memref.whole cc0_stg3_0) (r := Rect.unit (s := S2x128x256) ![b.val, 0, 64 * h.val] S1x128x64.size inb) (hl := hl) (k := k) c X
theorem load_o (X : S256x512.Idx → Elt F .bf16) {inb : ∀ a, (![0, 0] : Fin _ → ℕ) a + S256x512.size a ≤ S256x512.size a} {hl} {k : (S256x512.Idx → Elt F .bf16) → Prog (TpuEff nD τ sig (Elt F) Λ₀ .tc) α} :
    (owns (c : Thread nD τ) (Memref.whole cc0_stg4_0) fullShare X : sProp 𝕄)
      ⊢ iprop((owns (c : Thread nD τ) (Memref.whole cc0_stg4_0) fullShare X -∗ bodyWp c (k (wB X)) Q)
          -∗ bodyWp c (.op (.load (Memref.whole cc0_stg4_0) (Rect.unit (s := S256x512) ![0, 0] S256x512.size inb).toLoadRect hl) k) Q) :=
  load_part (m := Memref.whole cc0_stg4_0) (r := Rect.unit (s := S256x512) ![0, 0] S256x512.size inb) (hl := hl) (k := k) c X
theorem load_c (X : S128x256.Idx → Elt F .bf16) {inb : ∀ a, (![0, 0] : Fin _ → ℕ) a + S128x256.size a ≤ S128x256.size a} {hl} {k : (S128x256.Idx → Elt F .bf16) → Prog (TpuEff nD τ sig (Elt F) Λ₀ .tc) α} :
    (owns (c : Thread nD τ) (Memref.whole cc0_scratch2) fullShare X : sProp 𝕄)
      ⊢ iprop((owns (c : Thread nD τ) (Memref.whole cc0_scratch2) fullShare X -∗ bodyWp c (k (cB X)) Q)
          -∗ bodyWp c (.op (.load (Memref.whole cc0_scratch2) (Rect.unit (s := S128x256) ![0, 0] S128x256.size inb).toLoadRect hl) k) Q) :=
  load_part (m := Memref.whole cc0_scratch2) (r := Rect.unit (s := S128x256) ![0, 0] S128x256.size inb) (hl := hl) (k := k) c X
/-- A load whose value the text does not use. -/
theorem load_col (h : Fin 4) (X : S128x256.Idx → Elt F .bf16) {inb} {hl} {k : (S128x64.Idx → Elt F .bf16) → Prog (TpuEff nD τ sig (Elt F) Λ₀ .tc) α} :
    (wC c X : sProp 𝕄) ⊢ iprop((wC c X -∗ bodyWp c (k (fun j => X ((colR h).emb j))) Q)
        -∗ bodyWp c (.op (.load (Memref.whole cc0_scratch2) (Rect.unit (s := S128x256) ![0, 64 * h.val] S128x64.size inb).toLoadRect hl) k) Q) :=
  load_part (m := Memref.whole cc0_scratch2) (r := Rect.unit (s := S128x256) ![0, 64 * h.val] S128x64.size inb) (hl := hl) (k := k) c X
theorem store_col (h : Fin 4) (X : S128x256.Idx → Elt F .bf16) {inb} {w : S128x64.Idx → Elt F .bf16} {hx} {hm}
    {k : PUnit → Prog (TpuEff nD τ sig (Elt F) Λ₀ .tc) α} :
    (wC c X : sProp 𝕄) ⊢ iprop((wC c ((colR h).overlay X w) -∗ bodyWp c (k ⟨⟩) Q)
        -∗ bodyWp c (.op (.store (Memref.whole cc0_scratch2) (Rect.unit (s := S128x256) ![0, 64 * h.val] S128x64.size inb) w Finset.univ hx hm) k) Q) :=
  store_part c X
theorem load_row (b : Fin 2) (X : S2x128x512.Idx → Elt F .bf16) {inb} {hl} {k : (S1x128x512.Idx → Elt F .bf16) → Prog (TpuEff nD τ sig (Elt F) Λ₀ .tc) α} :
    (wR c X : sProp 𝕄) ⊢ iprop((wR c X -∗ bodyWp c (k (fun j => X ((rowR b).emb j))) Q)
        -∗ bodyWp c (.op (.load (Memref.whole cc0_stg5_0) (Rect.unit (s := S2x128x512) ![b.val, 0, 0] S1x128x512.size inb).toLoadRect hl) k) Q) :=
  load_part (m := Memref.whole cc0_stg5_0) (r := Rect.unit (s := S2x128x512) ![b.val, 0, 0] S1x128x512.size inb) (hl := hl) (k := k) c X
theorem store_row (b : Fin 2) (X : S2x128x512.Idx → Elt F .bf16) {inb} {w : S1x128x512.Idx → Elt F .bf16} {hx} {hm}
    {k : PUnit → Prog (TpuEff nD τ sig (Elt F) Λ₀ .tc) α} :
    (wR c X : sProp 𝕄) ⊢ iprop((wR c ((rowR b).overlay X w) -∗ bodyWp c (k ⟨⟩) Q)
        -∗ bodyWp c (.op (.store (Memref.whole cc0_stg5_0) (Rect.unit (s := S2x128x512) ![b.val, 0, 0] S1x128x512.size inb) w Finset.univ hx hm) k) Q) :=
  store_part c X
theorem load_comm (x : Fin 6) (X : S1x1x128x512.Idx → Elt F .bf16) {inb} {hl} {k : (S1x1x128x512.Idx → Elt F .bf16) → Prog (TpuEff nD τ sig (Elt F) Λ₀ .tc) α} :
    (commO c x X : sProp 𝕄) ⊢ iprop((commO c x X -∗ bodyWp c (k X) Q)
        -∗ bodyWp c (.op (.load (Memref.whole cc0_scratch0) (Rect.unit (s := S2x3x128x512) (offs x) S1x1x128x512.size inb).toLoadRect hl) k) Q) :=
  load_slice (m := commW) (r := slotR x) c (fun _ => rfl) X
theorem load_land (x : Fin 6) (X : S1x1x128x512.Idx → Elt F .bf16) {inb} {hl} {k : (S1x1x128x512.Idx → Elt F .bf16) → Prog (TpuEff nD τ sig (Elt F) Λ₀ .tc) α} :
    (landO c x X : sProp 𝕄) ⊢ iprop((landO c x X -∗ bodyWp c (k X) Q)
        -∗ bodyWp c (.op (.load (Memref.whole cc0_scratch1) (Rect.unit (s := S2x3x128x512) (offs x) S1x1x128x512.size inb).toLoadRect hl) k) Q) :=
  load_slice (m := landW) (r := slotR x) c (fun _ => rfl) X
theorem store_comm (x : Fin 6) (X : S1x1x128x512.Idx → Elt F .bf16) {inb} {w : S1x1x128x512.Idx → Elt F .bf16} {hx} {hm}
    {k : PUnit → Prog (TpuEff nD τ sig (Elt F) Λ₀ .tc) α} :
    (commO c x X : sProp 𝕄) ⊢ iprop((commO c x w -∗ bodyWp c (k ⟨⟩) Q)
        -∗ bodyWp c (.op (.store (Memref.whole cc0_scratch0) (Rect.unit (s := S2x3x128x512) (offs x) S1x1x128x512.size inb) w Finset.univ hx hm) k) Q) :=
  store_slice (m := commW) (r := slotR x) c (fun _ => rfl) X

end Loads

section Parts
variable (B : Blocks F) (K : GSem nD τ sig → ℕ) (c : Dev nD)

theorem part1 {W : Waits sig Unit} {Q : (Σ' (d0 : Dev nD) (v3 : BitVec 32) (v4 : BitVec 32) (v5 : BitVec 32) (v6 : Sems sig S_) (v15 : IVec S128x128 32) (v34 : IVec S128x128 1), BitVec 32) → sProp (MT nD τ sig Unit (Elt F) ℕ UU ℕ)} :
    iprop(records B K ∗ offer c 0 ∗ offer c 1 ∗ offer c 2 ∗ owes (c : Thread nD τ) (O₀ c) W) ⊢ iprop(((due c 0) -∗ Q ⟨c, Scalar.xori (Scalar.remsi (Scalar.divsi (Dev.word c) 1#32) 8#32) 1#32, Scalar.xori (Scalar.remsi (Scalar.divsi (Dev.word c) 1#32) 8#32) 3#32, Scalar.xori (Scalar.remsi (Scalar.divsi (Dev.word c) 1#32) 8#32) 4#32, SemArray.scalar (sig.barrier 0 rfl), k0_pay2, k0_pay3, 1#32⟩)
      -∗ bodyWp c (here (k0_part1 (F := F))) Q) := by
  rw [k0_part1_eq_skeleton]
  unfold here k0_part1_skel
  simp only [Prog.lift, Prog.bind_op, Prog.bind_ret, Prog.pure_eq_ret, semSignalWord, semWaitWord, wp_deviceId]
  iintro ⟨#HR, P0, P1, P2, HO⟩ Hk
  unfold due offer
  icases P0 with ⟨P0, P0', P0''⟩
  iapply (signal_step B K c 0 _ (dev1_eq c) rfl rfl (O₁ c) rfl _) $$ [P0 P0' P0'' HO]
  · isplitr; · iexact HR
    isplitl [P0]; · iexact P0
    isplitl [P0']; · iexact P0'
    isplitl [P0'']; · iexact P0''
    iexact HO
  iintro HO
  icases P1 with ⟨P1, P1', P1''⟩
  iapply (signal_step B K c 1 _ (dev2_eq c) rfl rfl (O₂ c) rfl _) $$ [P1 P1' P1'' HO]
  · isplitr; · iexact HR
    isplitl [P1]; · iexact P1
    isplitl [P1']; · iexact P1'
    isplitl [P1'']; · iexact P1''
    iexact HO
  iintro HO
  icases P2 with ⟨P2, P2', P2''⟩
  iapply (signal_step B K c 2 _ (dev3_eq c) rfl rfl (ow c 0) rfl _) $$ [P2 P2' P2'' HO]
  · isplitr; · iexact HR
    isplitl [P2]; · iexact P2
    isplitl [P2']; · iexact P2'
    isplitl [P2'']; · iexact P2''
    iexact HO
  iintro HO
  iapply (body_ret c _)
  iapply Hk
  iexists _; iexact HO

theorem part2 (v15 : IVec S128x128 32) (v34 : IVec S128x128 1) (u : BitVec 32)
    {Q : (Σ' (v37 : IVec S128x128 32) (v63 : IVec S128x128 1) (v79 : IVec S128x128 32) (c4_i32_28 : BitVec 32), BitVec 32) → sProp (MT nD τ sig Unit (Elt F) ℕ UU ℕ)} :
    Q ⟨k0_pay4 v15 v34 u, k0_pay6 v15 v34 u, k0_pay7, 4#32, 0#32⟩ ⊢ bodyWp c (here (k0_part2 (F := F)) v15 v34 u) Q := by
  rw [k0_part2_eq_skeleton]
  unfold here k0_part2_skel
  simp only [Prog.lift, Prog.bind_op, Prog.bind_ret, Prog.pure_eq_ret]
  exact body_ret c _

theorem part3 (v37 : IVec S128x128 32) (v63 : IVec S128x128 1) (v79 : IVec S128x128 32) (u u' : BitVec 32) {X : S2x128x512.Idx → Elt F .bf16} {Y : S512x256.Idx → Elt F .bf16} {U V : S2x128x256.Idx → Elt F .bf16} {Q : (Σ' (v97 : IVec S128x128 1) (v104 : FVec F S128x256 .f32) (v116 : FVec F S128x64 .f32), FVec F S128x1 .f32) → sProp (MT nD τ sig Unit (Elt F) ℕ UU ℕ)} :
    iprop(wX c X ∗ wQ c Y ∗ wK c U ∗ wV c V) ⊢ iprop(((wX c X ∗ wQ c Y ∗ wK c U ∗ wV c V) -∗ Q ⟨k0_pay8 v37 v63 v79 u u', k0_pay9 (xB 0 X) (qB Y), k0_pay11 v37 v63 v79 u u' (xB 0 X) (qB Y) (kB 0 0 U) (kB 0 0 V), k0_pay12 v37 v63 v79 u u' (xB 0 X) (qB Y) (kB 0 0 U)⟩)
      -∗ bodyWp c (here (k0_part3 (F := F)) v37 v63 v79 u u') Q) := by
  rw [k0_part3_eq_skeleton]
  unfold here k0_part3_skel
  simp only [Prog.lift, Prog.bind_op, Prog.bind_ret, Prog.pure_eq_ret, semSignalWord, semWaitWord, wp_deviceId]
  iintro ⟨HX, HQ, HU, HV⟩ Hk
  iapply (load_x c 0 X) $$ HX; iintro HX
  iapply (load_q c Y) $$ HQ; iintro HQ
  iapply (load_k c 0 0 U) $$ HU; iintro HU
  iapply (load_v c 0 0 V) $$ HV; iintro HV
  iapply (body_ret c _)
  iapply Hk
  isplitl [HX]; · iexact HX
  isplitl [HQ]; · iexact HQ
  isplitl [HU]; · iexact HU
  iexact HV

theorem part4 (v97 : IVec S128x128 1) (v104 : FVec F S128x256 .f32) (v116 : FVec F S128x64 .f32) (v118 : FVec F S128x1 .f32) {U V : S2x128x256.Idx → Elt F .bf16} {G : S128x256.Idx → Elt F .bf16} {Q : FVec F S128x128 .f32 → sProp (MT nD τ sig Unit (Elt F) ℕ UU ℕ)} :
    iprop(wK c U ∗ wV c V ∗ wC c G) ⊢ iprop(((wK c U ∗ wV c V ∗ wC c ((colR 1).overlay ((colR 0).overlay G (k0_pay13 v116 v118)) (k0_pay14 v97 v104 (kB 0 1 U) (kB 0 1 V)))) -∗ Q (k0_pay15 v97 v104 (kB 0 2 U)))
      -∗ bodyWp c (here (k0_part4 (F := F)) v97 v104 v116 v118) Q) := by
  rw [k0_part4_eq_skeleton]
  unfold here k0_part4_skel
  simp only [Prog.lift, Prog.bind_op, Prog.bind_ret, Prog.pure_eq_ret, semSignalWord, semWaitWord, wp_deviceId]
  iintro ⟨HU, HV, HC⟩ Hk
  iapply (load_col c 0 _) $$ HC; iintro HC
  iapply (store_col c 0 _) $$ HC; iintro HC
  iapply (load_k c 0 1 U) $$ HU; iintro HU
  iapply (load_v c 0 1 V) $$ HV; iintro HV
  iapply (load_col c 1 _) $$ HC; iintro HC
  iapply (store_col c 1 _) $$ HC; iintro HC
  iapply (load_k c 0 2 U) $$ HU; iintro HU
  iapply (body_ret c _)
  iapply Hk
  isplitl [HU]; · iexact HU
  isplitl [HV]; · iexact HV
  iexact HC

theorem part5 (v97 : IVec S128x128 1) (v104 : FVec F S128x256 .f32) (v155 : FVec F S128x128 .f32) {U V : S2x128x256.Idx → Elt F .bf16} {G : S128x256.Idx → Elt F .bf16} {Q : PUnit → sProp (MT nD τ sig Unit (Elt F) ℕ UU ℕ)} :
    iprop(wK c U ∗ wV c V ∗ wC c G) ⊢ iprop(((wK c U ∗ wV c V ∗ wC c ((colR 3).overlay ((colR 2).overlay G (k0_pay16 v155 (kB 0 2 V))) (k0_pay17 v97 v104 (kB 0 3 U) (kB 0 3 V)))) -∗ Q ⟨⟩)
      -∗ bodyWp c (here (k0_part5 (F := F)) v97 v104 v155) Q) := by
  rw [k0_part5_eq_skeleton]
  unfold here k0_part5_skel
  simp only [Prog.lift, Prog.bind_op, Prog.bind_ret, Prog.pure_eq_ret, semSignalWord, semWaitWord, wp_deviceId]
  iintro ⟨HU, HV, HC⟩ Hk
  iapply (load_v c 0 2 V) $$ HV; iintro HV
  iapply (load_col c 2 _) $$ HC; iintro HC
  iapply (store_col c 2 _) $$ HC; iintro HC
  iapply (load_k c 0 3 U) $$ HU; iintro HU
  iapply (load_v c 0 3 V) $$ HV; iintro HV
  iapply (load_col c 3 _) $$ HC; iintro HC
  iapply (store_col c 3 _) $$ HC; iintro HC
  iapply (body_ret c _)
  iapply Hk
  isplitl [HU]; · iexact HU
  isplitl [HV]; · iexact HV
  iexact HC

theorem part6 (w3 : BitVec 32) {X : S2x128x512.Idx → Elt F .bf16} {Y : S512x256.Idx → Elt F .bf16} {G : S128x256.Idx → Elt F .bf16} {O : S256x512.Idx → Elt F .bf16} {Z : S1x1x128x512.Idx → Elt F .bf16} (hB : B 0 c = k0_pay18 (cB G) (wB O)) {Q : FVec F S128x256 .f32 → sProp (MT nD τ sig Unit (Elt F) ℕ UU ℕ)} :
    iprop(records B K ∗ levAts L lv ∗ wX c X ∗ wQ c Y ∗ wC c G ∗ wO c O ∗ commO c 0 Z ∗ cred (tallyAt (barCell c) () 3) ∗ atPos ER (barCell c) 0 ∅ 0 ∗ slotKit c 0 ∗ due c 0) ⊢ iprop(((wX c X ∗ wQ c Y ∗ wC c G ∗ wO c O ∗ atPos ER (barCell c) 1 ∅ 0 ∗ slotOut c 0 ∗ room (pr (stp 1) c) 1 ∗ room (pr (stp 2) c) 2 ∗ room (pr (stp 3) c) 3 ∗ room (pr (stp 4) c) 4 ∗ room (pr (stp 5) c) 5 ∗ due c 1) -∗ Q (k0_pay19 (xB 1 X) (qB Y)))
      -∗ bodyWp c (here (k0_part6 (F := F)) c w3 (SemArray.scalar (sig.barrier 0 rfl))) Q) := by
  rw [k0_part6_eq_skeleton]
  unfold here k0_part6_skel
  simp only [Prog.lift, Prog.bind_op, Prog.bind_ret, Prog.pure_eq_ret, semSignalWord, semWaitWord, wp_deviceId]
  iintro ⟨#HR, #Hlev, HX, HQ, HC, HW, C0, Hcr, Hat, Sk0, HO⟩ Hk
  unfold due; icases HO with ⟨%W, HO⟩
  iapply (load_c c G) $$ HC; iintro HC
  iapply (load_o c O) $$ HW; iintro HW
  iapply (load_comm c 0 Z) $$ C0; iintro C0
  iapply (store_comm c 0 Z) $$ C0; iintro C0
  iapply (wait_bar B K c rfl rfl _) $$ [HO Hcr Hat]
  · isplitr; · iexact HR
    isplitr; · iexact Hlev
    isplitl [Hcr]; · iexact Hcr
    isplitl [Hat]; · iexact Hat
    iexact HO
  iintro ⟨Hat, ⟨R0, R1, R2⟩, HO⟩
  unfold barPay
  icases R0 with ⟨M0, M1⟩
  icases R1 with ⟨M2, M3⟩
  icases R2 with ⟨M4, M5⟩
  iapply (send_slot B K c 0 _ (dev4_eq c) rfl rfl rfl rfl _) $$ [HO Sk0 C0 M0]
  · isplitr; · iexact HR
    isplitl [Sk0]; · iexact Sk0
    isplitl [C0]; · rw [hB]; iexact C0
    isplitl [M0]; · iexact M0
    iexact HO
  iintro ⟨So0, HO⟩
  iapply (load_x c 1 X) $$ HX; iintro HX
  iapply (load_q c Y) $$ HQ; iintro HQ
  iapply (body_ret c _)
  iapply Hk
  isplitl [HX]; · iexact HX
  isplitl [HQ]; · iexact HQ
  isplitl [HC]; · iexact HC
  isplitl [HW]; · iexact HW
  isplitl [Hat]; · iexact Hat
  isplitl [So0]; · iexact So0
  isplitl [M1]; · iexact M1
  isplitl [M2]; · iexact M2
  isplitl [M3]; · iexact M3
  isplitl [M4]; · iexact M4
  isplitl [M5]; · iexact M5
  iexists _; iexact HO

theorem part7 (v97 : IVec S128x128 1) (v217 : FVec F S128x256 .f32) {U V : S2x128x256.Idx → Elt F .bf16} {G : S128x256.Idx → Elt F .bf16} {Q : (Σ' (v251 : FVec F S128x64 .f32), FVec F S128x1 .f32) → sProp (MT nD τ sig Unit (Elt F) ℕ UU ℕ)} :
    iprop(wK c U ∗ wV c V ∗ wC c G) ⊢ iprop(((wK c U ∗ wV c V ∗ wC c ((colR 0).overlay G (k0_pay20 v97 v217 (kB 1 0 U) (kB 1 0 V)))) -∗ Q ⟨k0_pay22 v97 v217 (kB 1 1 U) (kB 1 1 V), k0_pay23 v97 v217 (kB 1 1 U)⟩)
      -∗ bodyWp c (here (k0_part7 (F := F)) v97 v217) Q) := by
  rw [k0_part7_eq_skeleton]
  unfold here k0_part7_skel
  simp only [Prog.lift, Prog.bind_op, Prog.bind_ret, Prog.pure_eq_ret, semSignalWord, semWaitWord, wp_deviceId]
  iintro ⟨HU, HV, HC⟩ Hk
  iapply (load_k c 1 0 U) $$ HU; iintro HU
  iapply (load_v c 1 0 V) $$ HV; iintro HV
  iapply (load_col c 0 _) $$ HC; iintro HC
  iapply (store_col c 0 _) $$ HC; iintro HC
  iapply (load_k c 1 1 U) $$ HU; iintro HU
  iapply (load_v c 1 1 V) $$ HV; iintro HV
  iapply (body_ret c _)
  iapply Hk
  isplitl [HU]; · iexact HU
  isplitl [HV]; · iexact HV
  iexact HC

theorem part8 (v97 : IVec S128x128 1) (v217 : FVec F S128x256 .f32) (v251 : FVec F S128x64 .f32) (v253 : FVec F S128x1 .f32) {U V : S2x128x256.Idx → Elt F .bf16} {G : S128x256.Idx → Elt F .bf16} {Q : FVec F S128x128 .f32 → sProp (MT nD τ sig Unit (Elt F) ℕ UU ℕ)} :
    iprop(wK c U ∗ wV c V ∗ wC c G) ⊢ iprop(((wK c U ∗ wV c V ∗ wC c ((colR 2).overlay ((colR 1).overlay G (k0_pay24 v251 v253)) (k0_pay25 v97 v217 (kB 1 2 U) (kB 1 2 V)))) -∗ Q (k0_pay26 v97 v217 (kB 1 3 U)))
      -∗ bodyWp c (here (k0_part8 (F := F)) v97 v217 v251 v253) Q) := by
  rw [k0_part8_eq_skeleton]
  unfold here k0_part8_skel
  simp only [Prog.lift, Prog.bind_op, Prog.bind_ret, Prog.pure_eq_ret, semSignalWord, semWaitWord, wp_deviceId]
  iintro ⟨HU, HV, HC⟩ Hk
  iapply (load_col c 1 _) $$ HC; iintro HC
  iapply (store_col c 1 _) $$ HC; iintro HC
  iapply (load_k c 1 2 U) $$ HU; iintro HU
  iapply (load_v c 1 2 V) $$ HV; iintro HV
  iapply (load_col c 2 _) $$ HC; iintro HC
  iapply (store_col c 2 _) $$ HC; iintro HC
  iapply (load_k c 1 3 U) $$ HU; iintro HU
  iapply (body_ret c _)
  iapply Hk
  isplitl [HU]; · iexact HU
  isplitl [HV]; · iexact HV
  iexact HC

theorem part9 (w3 : BitVec 32) (v290 : FVec F S128x128 .f32) {V : S2x128x256.Idx → Elt F .bf16} {G : S128x256.Idx → Elt F .bf16} {O : S256x512.Idx → Elt F .bf16} {Z : S1x1x128x512.Idx → Elt F .bf16} {Q : PUnit → sProp (MT nD τ sig Unit (Elt F) ℕ UU ℕ)} :
    iprop(wV c V ∗ wC c G ∗ wO c O ∗ commO c 1 Z) ⊢ iprop(((wV c V ∗ wC c ((colR 3).overlay G (k0_pay27 v290 (kB 1 3 V))) ∗ wO c O ∗ commO c 1 (k0_pay28 (cB ((colR 3).overlay G (k0_pay27 v290 (kB 1 3 V)))) (wB O))) -∗ Q ⟨⟩)
      -∗ bodyWp c (here (k0_part9 (F := F)) w3 v290) Q) := by
  rw [k0_part9_eq_skeleton]
  unfold here k0_part9_skel
  simp only [Prog.lift, Prog.bind_op, Prog.bind_ret, Prog.pure_eq_ret, semSignalWord, semWaitWord, wp_deviceId]
  iintro ⟨HV, HC, HW, C1⟩ Hk
  iapply (load_v c 1 3 V) $$ HV; iintro HV
  iapply (load_col c 3 _) $$ HC; iintro HC
  iapply (store_col c 3 _) $$ HC; iintro HC
  iapply (load_c c _) $$ HC; iintro HC
  iapply (load_o c O) $$ HW; iintro HW
  iapply (load_comm c 1 Z) $$ C1; iintro C1
  iapply (store_comm c 1 Z) $$ C1; iintro C1
  iapply (body_ret c _)
  iapply Hk
  isplitl [HV]; · iexact HV
  isplitl [HC]; · iexact HC
  isplitl [HW]; · iexact HW
  iexact C1

theorem part10 (w3 : BitVec 32) {Q : FVec F S128x512 .bf16 → sProp (MT nD τ sig Unit (Elt F) ℕ UU ℕ)} :
    iprop(records B K ∗ levAts L lv ∗ slotKit c 1 ∗ room (pr (stp 1) c) 1 ∗ commO c 1 (B 1 c) ∗ slotOut c 0 ∗ due c 1) ⊢ iprop(((slotOut c 1 ∗ slotEnd c 0 ∗ commO c 0 (B 0 c) ∗ landO c 0 (B 0 (pr (stp 0) c)) ∗ due c 2) -∗ Q (k0_pay29 (B 0 c)))
      -∗ bodyWp c (here (k0_part10 (F := F)) c w3) Q) := by
  rw [k0_part10_eq_skeleton]
  unfold here k0_part10_skel
  simp only [Prog.lift, Prog.bind_op, Prog.bind_ret, Prog.pure_eq_ret, semSignalWord, semWaitWord, wp_deviceId]
  iintro ⟨#HR, #Hlev, Sk1, M1, C1, So0, HO⟩ Hk
  unfold due; icases HO with ⟨%W, HO⟩
  iapply (send_slot B K c 1 _ (dev5_eq c) rfl rfl rfl rfl _) $$ [HO Sk1 C1 M1]
  · isplitr; · iexact HR
    isplitl [Sk1]; · iexact Sk1
    isplitl [C1]; · iexact C1
    isplitl [M1]; · iexact M1
    iexact HO
  iintro ⟨So1, HO⟩
  iapply (wait_send B K c 0 2 rfl (N_eq' 0) _) $$ [HO So0]
  · isplitr; · iexact HR
    isplitr; · iexact Hlev
    isplitl [So0]; · iexact So0
    iexact HO
  iintro ⟨Ss0, C0, HO⟩
  iapply (wait_land B K c 0 2 (by decide) rfl (N_eq 0) _) $$ [HO Ss0]
  · isplitr; · iexact HR
    isplitr; · iexact Hlev
    isplitl [Ss0]; · iexact Ss0
    iexact HO
  iintro ⟨Se0, D0, HO⟩
  iapply (load_comm c 0 _) $$ C0; iintro C0
  iapply (body_ret c _)
  iapply Hk
  isplitl [So1]; · iexact So1
  isplitl [Se0]; · iexact Se0
  isplitl [C0]; · iexact C0
  isplitl [D0]; · iexact D0
  iexists _; iexact HO

theorem part11 (w4 : BitVec 32) (v339 : FVec F S128x512 .bf16) {Y : S1x1x128x512.Idx → Elt F .bf16} {Z : S1x1x128x512.Idx → Elt F .bf16} (hB : B 2 c = k0_pay30 v339 Y) {Q : PUnit → sProp (MT nD τ sig Unit (Elt F) ℕ UU ℕ)} :
    iprop(records B K ∗ levAts L lv ∗ slotKit c 2 ∗ room (pr (stp 2) c) 2 ∗ landO c 0 Y ∗ commO c 2 Z ∗ slotOut c 1 ∗ due c 2) ⊢ iprop(((landO c 0 Y ∗ slotOut c 2 ∗ slotSent c 1 ∗ commO c 1 (B 1 c) ∗ due c 3) -∗ Q ⟨⟩)
      -∗ bodyWp c (here (k0_part11 (F := F)) c w4 v339) Q) := by
  rw [k0_part11_eq_skeleton]
  unfold here k0_part11_skel
  simp only [Prog.lift, Prog.bind_op, Prog.bind_ret, Prog.pure_eq_ret, semSignalWord, semWaitWord, wp_deviceId]
  iintro ⟨#HR, #Hlev, Sk2, M2, D0, C2, So1, HO⟩ Hk
  unfold due; icases HO with ⟨%W, HO⟩
  iapply (load_land c 0 Y) $$ D0; iintro D0
  iapply (load_comm c 2 Z) $$ C2; iintro C2
  iapply (store_comm c 2 Z) $$ C2; iintro C2
  iapply (send_slot B K c 2 _ (dev6_eq c) rfl rfl rfl rfl _) $$ [HO Sk2 C2 M2]
  · isplitr; · iexact HR
    isplitl [Sk2]; · iexact Sk2
    isplitl [C2]; · rw [hB]; iexact C2
    isplitl [M2]; · iexact M2
    iexact HO
  iintro ⟨So2, HO⟩
  iapply (wait_send B K c 1 3 rfl (N_eq' 1) _) $$ [HO So1]
  · isplitr; · iexact HR
    isplitr; · iexact Hlev
    isplitl [So1]; · iexact So1
    iexact HO
  iintro ⟨Ss1, C1, HO⟩
  iapply (body_ret c _)
  iapply Hk
  isplitl [D0]; · iexact D0
  isplitl [So2]; · iexact So2
  isplitl [Ss1]; · iexact Ss1
  isplitl [C1]; · iexact C1
  iexists _; iexact HO

theorem part12 (w3 w4 : BitVec 32) {Y : S1x1x128x512.Idx → Elt F .bf16} {Z : S1x1x128x512.Idx → Elt F .bf16} {Q : PUnit → sProp (MT nD τ sig Unit (Elt F) ℕ UU ℕ)} :
    iprop(records B K ∗ levAts L lv ∗ slotSent c 1 ∗ commO c 1 Y ∗ commO c 3 Z ∗ due c 3) ⊢ iprop(((slotEnd c 1 ∗ commO c 1 Y ∗ landO c 1 (B 1 (pr (stp 1) c)) ∗ commO c 3 (k0_pay31 Y (B 1 (pr (stp 1) c))) ∗ due c 3) -∗ Q ⟨⟩)
      -∗ bodyWp c (here (k0_part12 (F := F)) w3 w4) Q) := by
  rw [k0_part12_eq_skeleton]
  unfold here k0_part12_skel
  simp only [Prog.lift, Prog.bind_op, Prog.bind_ret, Prog.pure_eq_ret, semSignalWord, semWaitWord, wp_deviceId]
  iintro ⟨#HR, #Hlev, Ss1, C1, C3, HO⟩ Hk
  unfold due; icases HO with ⟨%W, HO⟩
  iapply (wait_land B K c 1 3 (by decide) rfl (N_eq 1) _) $$ [HO Ss1]
  · isplitr; · iexact HR
    isplitr; · iexact Hlev
    isplitl [Ss1]; · iexact Ss1
    iexact HO
  iintro ⟨Se1, D1, HO⟩
  iapply (load_comm c 1 Y) $$ C1; iintro C1
  iapply (load_land c 1 _) $$ D1; iintro D1
  iapply (load_comm c 3 Z) $$ C3; iintro C3
  iapply (store_comm c 3 Z) $$ C3; iintro C3
  iapply (body_ret c _)
  iapply Hk
  isplitl [Se1]; · iexact Se1
  isplitl [C1]; · iexact C1
  isplitl [D1]; · iexact D1
  isplitl [C3]; · iexact C3
  iexists _; iexact HO

theorem part13 (w4 : BitVec 32) {Q : (Σ' (v403 : FVec F S128x512 .bf16), FVec F S128x512 .bf16) → sProp (MT nD τ sig Unit (Elt F) ℕ UU ℕ)} :
    iprop(records B K ∗ levAts L lv ∗ slotKit c 3 ∗ room (pr (stp 3) c) 3 ∗ commO c 3 (B 3 c) ∗ slotOut c 2 ∗ due c 3) ⊢ iprop(((slotOut c 3 ∗ slotEnd c 2 ∗ commO c 2 (B 2 c) ∗ landO c 2 (B 2 (pr (stp 2) c)) ∗ due c 4) -∗ Q ⟨k0_pay32 (B 2 c), k0_pay33 (B 2 (pr (stp 2) c))⟩)
      -∗ bodyWp c (here (k0_part13 (F := F)) c w4) Q) := by
  rw [k0_part13_eq_skeleton]
  unfold here k0_part13_skel
  simp only [Prog.lift, Prog.bind_op, Prog.bind_ret, Prog.pure_eq_ret, semSignalWord, semWaitWord, wp_deviceId]
  iintro ⟨#HR, #Hlev, Sk3, M3, C3, So2, HO⟩ Hk
  unfold due; icases HO with ⟨%W, HO⟩
  iapply (send_slot B K c 3 _ (dev7_eq c) rfl rfl rfl rfl _) $$ [HO Sk3 C3 M3]
  · isplitr; · iexact HR
    isplitl [Sk3]; · iexact Sk3
    isplitl [C3]; · iexact C3
    isplitl [M3]; · iexact M3
    iexact HO
  iintro ⟨So3, HO⟩
  iapply (wait_send B K c 2 4 rfl (N_eq' 2) _) $$ [HO So2]
  · isplitr; · iexact HR
    isplitr; · iexact Hlev
    isplitl [So2]; · iexact So2
    iexact HO
  iintro ⟨Ss2, C2, HO⟩
  iapply (wait_land B K c 2 4 (by decide) rfl (N_eq 2) _) $$ [HO Ss2]
  · isplitr; · iexact HR
    isplitr; · iexact Hlev
    isplitl [Ss2]; · iexact Ss2
    iexact HO
  iintro ⟨Se2, D2, HO⟩
  iapply (load_comm c 2 _) $$ C2; iintro C2
  iapply (load_land c 2 _) $$ D2; iintro D2
  iapply (body_ret c _)
  iapply Hk
  isplitl [So3]; · iexact So3
  isplitl [Se2]; · iexact Se2
  isplitl [C2]; · iexact C2
  isplitl [D2]; · iexact D2
  iexists _; iexact HO

theorem part14 (w5 : BitVec 32) (v403 v405 : FVec F S128x512 .bf16) {Z : S1x1x128x512.Idx → Elt F .bf16} (hB : B 4 c = k0_pay34 v403 v405) {Q : PUnit → sProp (MT nD τ sig Unit (Elt F) ℕ UU ℕ)} :
    iprop(records B K ∗ levAts L lv ∗ slotKit c 4 ∗ room (pr (stp 4) c) 4 ∗ commO c 4 Z ∗ slotOut c 3 ∗ due c 4) ⊢ iprop(((slotOut c 4 ∗ slotSent c 3 ∗ commO c 3 (B 3 c) ∗ due c 5) -∗ Q ⟨⟩)
      -∗ bodyWp c (here (k0_part14 (F := F)) c w5 v403 v405) Q) := by
  rw [k0_part14_eq_skeleton]
  unfold here k0_part14_skel
  simp only [Prog.lift, Prog.bind_op, Prog.bind_ret, Prog.pure_eq_ret, semSignalWord, semWaitWord, wp_deviceId]
  iintro ⟨#HR, #Hlev, Sk4, M4, C4, So3, HO⟩ Hk
  unfold due; icases HO with ⟨%W, HO⟩
  iapply (load_comm c 4 Z) $$ C4; iintro C4
  iapply (store_comm c 4 Z) $$ C4; iintro C4
  iapply (send_slot B K c 4 _ (dev8_eq c) rfl rfl rfl rfl _) $$ [HO Sk4 C4 M4]
  · isplitr; · iexact HR
    isplitl [Sk4]; · iexact Sk4
    isplitl [C4]; · rw [hB]; iexact C4
    isplitl [M4]; · iexact M4
    iexact HO
  iintro ⟨So4, HO⟩
  iapply (wait_send B K c 3 5 rfl (N_eq' 3) _) $$ [HO So3]
  · isplitr; · iexact HR
    isplitr; · iexact Hlev
    isplitl [So3]; · iexact So3
    iexact HO
  iintro ⟨Ss3, C3, HO⟩
  iapply (body_ret c _)
  iapply Hk
  isplitl [So4]; · iexact So4
  isplitl [Ss3]; · iexact Ss3
  isplitl [C3]; · iexact C3
  iexists _; iexact HO

theorem part15 (w4 w5 : BitVec 32) {Y : S1x1x128x512.Idx → Elt F .bf16} {Z : S1x1x128x512.Idx → Elt F .bf16} {Q : PUnit → sProp (MT nD τ sig Unit (Elt F) ℕ UU ℕ)} :
    iprop(records B K ∗ levAts L lv ∗ slotSent c 3 ∗ commO c 3 Y ∗ commO c 5 Z ∗ due c 5) ⊢ iprop(((slotEnd c 3 ∗ commO c 3 Y ∗ landO c 3 (B 3 (pr (stp 3) c)) ∗ commO c 5 (k0_pay35 Y (B 3 (pr (stp 3) c))) ∗ due c 5) -∗ Q ⟨⟩)
      -∗ bodyWp c (here (k0_part15 (F := F)) w4 w5) Q) := by
  rw [k0_part15_eq_skeleton]
  unfold here k0_part15_skel
  simp only [Prog.lift, Prog.bind_op, Prog.bind_ret, Prog.pure_eq_ret, semSignalWord, semWaitWord, wp_deviceId]
  iintro ⟨#HR, #Hlev, Ss3, C3, C5, HO⟩ Hk
  unfold due; icases HO with ⟨%W, HO⟩
  iapply (wait_land B K c 3 5 (by decide) rfl (N_eq 3) _) $$ [HO Ss3]
  · isplitr; · iexact HR
    isplitr; · iexact Hlev
    isplitl [Ss3]; · iexact Ss3
    iexact HO
  iintro ⟨Se3, D3, HO⟩
  iapply (load_comm c 3 Y) $$ C3; iintro C3
  iapply (load_land c 3 _) $$ D3; iintro D3
  iapply (load_comm c 5 Z) $$ C5; iintro C5
  iapply (store_comm c 5 Z) $$ C5; iintro C5
  iapply (body_ret c _)
  iapply Hk
  isplitl [Se3]; · iexact Se3
  isplitl [C3]; · iexact C3
  isplitl [D3]; · iexact D3
  isplitl [C5]; · iexact C5
  iexists _; iexact HO

theorem part16 (w5 : BitVec 32) {Q : FVec F S128x512 .bf16 → sProp (MT nD τ sig Unit (Elt F) ℕ UU ℕ)} :
    iprop(records B K ∗ levAts L lv ∗ slotKit c 5 ∗ room (pr (stp 5) c) 5 ∗ commO c 5 (B 5 c) ∗ slotOut c 4 ∗ due c 5) ⊢ iprop(((slotOut c 5 ∗ slotEnd c 4 ∗ commO c 4 (B 4 c) ∗ landO c 4 (B 4 (pr (stp 4) c)) ∗ due c 6) -∗ Q (k0_pay36 (B 4 c) (B 4 (pr (stp 4) c))))
      -∗ bodyWp c (here (k0_part16 (F := F)) c w5) Q) := by
  rw [k0_part16_eq_skeleton]
  unfold here k0_part16_skel
  simp only [Prog.lift, Prog.bind_op, Prog.bind_ret, Prog.pure_eq_ret, semSignalWord, semWaitWord, wp_deviceId]
  iintro ⟨#HR, #Hlev, Sk5, M5, C5, So4, HO⟩ Hk
  unfold due; icases HO with ⟨%W, HO⟩
  iapply (send_slot B K c 5 _ (dev9_eq c) rfl rfl rfl rfl _) $$ [HO Sk5 C5 M5]
  · isplitr; · iexact HR
    isplitl [Sk5]; · iexact Sk5
    isplitl [C5]; · iexact C5
    isplitl [M5]; · iexact M5
    iexact HO
  iintro ⟨So5, HO⟩
  iapply (wait_send B K c 4 6 rfl (N_eq' 4) _) $$ [HO So4]
  · isplitr; · iexact HR
    isplitr; · iexact Hlev
    isplitl [So4]; · iexact So4
    iexact HO
  iintro ⟨Ss4, C4, HO⟩
  iapply (wait_land B K c 4 6 (by decide) rfl (N_eq 4) _) $$ [HO Ss4]
  · isplitr; · iexact HR
    isplitr; · iexact Hlev
    isplitl [Ss4]; · iexact Ss4
    iexact HO
  iintro ⟨Se4, D4, HO⟩
  iapply (load_comm c 4 _) $$ C4; iintro C4
  iapply (load_land c 4 _) $$ D4; iintro D4
  iapply (body_ret c _)
  iapply Hk
  isplitl [So5]; · iexact So5
  isplitl [Se4]; · iexact Se4
  isplitl [C4]; · iexact C4
  isplitl [D4]; · iexact D4
  iexists _; iexact HO

theorem part17 (w5 : BitVec 32) (v470 : FVec F S128x512 .bf16) {G : S2x128x512.Idx → Elt F .bf16} {Q : (Σ' (v489 : FVec F S128x512 .bf16), Vec F S1x1x128x512 .bf16) → sProp (MT nD τ sig Unit (Elt F) ℕ UU ℕ)} :
    iprop(records B K ∗ levAts L lv ∗ wR c G ∗ slotOut c 5 ∗ due c 6) ⊢ iprop(((wR c ((rowR 0).overlay G (k0_pay37 v470)) ∗ slotEnd c 5 ∗ commO c 5 (B 5 c) ∗ landO c 5 (B 5 (pr (stp 5) c)) ∗ due c 6) -∗ Q ⟨k0_pay38 (B 5 c), B 5 (pr (stp 5) c)⟩)
      -∗ bodyWp c (here (k0_part17 (F := F)) w5 v470) Q) := by
  rw [k0_part17_eq_skeleton]
  unfold here k0_part17_skel
  simp only [Prog.lift, Prog.bind_op, Prog.bind_ret, Prog.pure_eq_ret, semSignalWord, semWaitWord, wp_deviceId]
  iintro ⟨#HR, #Hlev, HG, So5, HO⟩ Hk
  unfold due; icases HO with ⟨%W, HO⟩
  iapply (load_row c 0 G) $$ HG; iintro HG
  iapply (store_row c 0 G) $$ HG; iintro HG
  iapply (wait_send B K c 5 6 rfl (N_eq' 5) _) $$ [HO So5]
  · isplitr; · iexact HR
    isplitr; · iexact Hlev
    isplitl [So5]; · iexact So5
    iexact HO
  iintro ⟨Ss5, C5, HO⟩
  iapply (wait_land B K c 5 6 (by decide) rfl (N_eq 5) _) $$ [HO Ss5]
  · isplitr; · iexact HR
    isplitr; · iexact Hlev
    isplitl [Ss5]; · iexact Ss5
    iexact HO
  iintro ⟨Se5, D5, HO⟩
  iapply (load_comm c 5 _) $$ C5; iintro C5
  iapply (load_land c 5 _) $$ D5; iintro D5
  iapply (body_ret c _)
  iapply Hk
  isplitl [HG]; · iexact HG
  isplitl [Se5]; · iexact Se5
  isplitl [C5]; · iexact C5
  isplitl [D5]; · iexact D5
  iexists _; iexact HO

end Parts

end Cert.Exchange

end
-- ==== Proof.Body.lean ====
/-
The whole body on one device, from the windows, the scratch buffers cut into slots and the exchange's ghost state.
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem ent_eq {P Q : sProp (MT nD τ sig Unit (Elt F) ℕ UU ℕ)} (h : P = Q) : P ⊢ Q := by rw [h]

theorem body_bind (c : Dev nD) {α β : Type} (p : Prog (TpuEff nD τ sig (Elt F) Λ₀ .tc) α) (k : α → Prog (TpuEff nD τ sig (Elt F) Λ₀ .tc) β)
    {Q : β → sProp (MT nD τ sig Unit (Elt F) ℕ UU ℕ)} : bodyWp c p (fun a => bodyWp c (k a) Q) ⊢ bodyWp c (p >>= k) Q := by
  show _ ⊢ wp frame _ _ (p >>= k) Q
  rw [wp_bind]

section Body
variable (I : Ins F) (K : GSem nD τ sig → ℕ) (c : Dev nD)

theorem put4_heads0 (G : S128x256.Idx → Elt F .bf16) :
    (colR 3).overlay ((colR 2).overlay ((colR 1).overlay ((colR 0).overlay G
        (k0_pay13 (k0_pay11 (k0_pay4 k0_pay2 k0_pay3 1#32) (k0_pay6 k0_pay2 k0_pay3 1#32) k0_pay7 4#32 0#32 (xB 0 (I.x c)) (qB (I.q c)) (kB 0 0 (I.k c)) (kB 0 0 (I.v c))) (k0_pay12 (k0_pay4 k0_pay2 k0_pay3 1#32) (k0_pay6 k0_pay2 k0_pay3 1#32) k0_pay7 4#32 0#32 (xB 0 (I.x c)) (qB (I.q c)) (kB 0 0 (I.k c)))))
        (k0_pay14 (k0_pay8 (k0_pay4 k0_pay2 k0_pay3 1#32) (k0_pay6 k0_pay2 k0_pay3 1#32) k0_pay7 4#32 0#32) (k0_pay9 (xB 0 (I.x c)) (qB (I.q c))) (kB 0 1 (I.k c)) (kB 0 1 (I.v c))))
        (k0_pay16 (k0_pay15 (k0_pay8 (k0_pay4 k0_pay2 k0_pay3 1#32) (k0_pay6 k0_pay2 k0_pay3 1#32) k0_pay7 4#32 0#32) (k0_pay9 (xB 0 (I.x c)) (qB (I.q c))) (kB 0 2 (I.k c))) (kB 0 2 (I.v c))))
        (k0_pay17 (k0_pay8 (k0_pay4 k0_pay2 k0_pay3 1#32) (k0_pay6 k0_pay2 k0_pay3 1#32) k0_pay7 4#32 0#32) (k0_pay9 (xB 0 (I.x c)) (qB (I.q c))) (kB 0 3 (I.k c)) (kB 0 3 (I.v c)))
      = ctxV (heads0 I c) := put4_eq G (heads0 I c)
theorem put4_heads1 (G : S128x256.Idx → Elt F .bf16) :
    (colR 3).overlay ((colR 2).overlay ((colR 1).overlay ((colR 0).overlay G
        (k0_pay20 (k0_pay8 (k0_pay4 k0_pay2 k0_pay3 1#32) (k0_pay6 k0_pay2 k0_pay3 1#32) k0_pay7 4#32 0#32) (k0_pay19 (xB 1 (I.x c)) (qB (I.q c))) (kB 1 0 (I.k c)) (kB 1 0 (I.v c))))
        (k0_pay24 (k0_pay22 (k0_pay8 (k0_pay4 k0_pay2 k0_pay3 1#32) (k0_pay6 k0_pay2 k0_pay3 1#32) k0_pay7 4#32 0#32) (k0_pay19 (xB 1 (I.x c)) (qB (I.q c))) (kB 1 1 (I.k c)) (kB 1 1 (I.v c))) (k0_pay23 (k0_pay8 (k0_pay4 k0_pay2 k0_pay3 1#32) (k0_pay6 k0_pay2 k0_pay3 1#32) k0_pay7 4#32 0#32) (k0_pay19 (xB 1 (I.x c)) (qB (I.q c))) (kB 1 1 (I.k c)))))
        (k0_pay25 (k0_pay8 (k0_pay4 k0_pay2 k0_pay3 1#32) (k0_pay6 k0_pay2 k0_pay3 1#32) k0_pay7 4#32 0#32) (k0_pay19 (xB 1 (I.x c)) (qB (I.q c))) (kB 1 2 (I.k c)) (kB 1 2 (I.v c))))
        (k0_pay27 (k0_pay26 (k0_pay8 (k0_pay4 k0_pay2 k0_pay3 1#32) (k0_pay6 k0_pay2 k0_pay3 1#32) k0_pay7 4#32 0#32) (k0_pay19 (xB 1 (I.x c)) (qB (I.q c))) (kB 1 3 (I.k c))) (kB 1 3 (I.v c)))
      = ctxV (heads1 I c) := put4_eq G (heads1 I c)
theorem put2_outs (R : S2x128x512.Idx → Elt F .bf16) :
    (rowR 1).overlay ((rowR 0).overlay R (k0_pay37 (k0_pay36 (blocks I 4 c) (blocks I 4 (pr (stp 4) c)))))
        (k0_pay1 (k0_pay38 (blocks I 5 c)) (blocks I 5 (pr (stp 5) c)))
      = outB I c := put2_eq R (outs I c)

/-- Six of a kind, one per slot. -/
abbrev six (P : Fin 6 → sProp 𝕄) : sProp 𝕄 := iprop(P 0 ∗ P 1 ∗ P 2 ∗ P 3 ∗ P 4 ∗ P 5)

/-- The inputs' windows. -/
def windows : sProp 𝕄 := iprop(wX c (I.x c) ∗ wQ c (I.q c) ∗ wK c (I.k c) ∗ wV c (I.v c) ∗ wO c (I.o c))

/-- What the body starts from, besides the windows. -/
def ready : sProp 𝕄 :=
  iprop(records (blocks I) K ∗ levAts L lv ∗ (offer c 0 ∗ offer c 1 ∗ offer c 2) ∗ cred (tallyAt (barCell c) () 3) ∗ atPos ER (barCell c) 0 ∅ 0
    ∗ six (slotKit c))

/-- What it ends with. -/
def finished : sProp 𝕄 :=
  iprop(atPos ER (barCell c) 1 ∅ 0 ∗ six (slotEnd c) ∗ six (fun x => commO c x (blocks I x c)) ∗ six (fun x => landO c x (blocks I x (pr (stp x) c))))

set_option maxHeartbeats 1600000 in
theorem sound {W : Waits sig Unit} {G : S128x256.Idx → Elt F .bf16} {R : S2x128x512.Idx → Elt F .bf16} {Z : Fin 6 → S1x1x128x512.Idx → Elt F .bf16}
    {Q : PUnit → sProp (MT nD τ sig Unit (Elt F) ℕ UU ℕ)} :
    iprop(ready I K c ∗ windows I c ∗ wR c R ∗ wC c G ∗ six (fun x => commO c x (Z x)) ∗ owes (c : Thread nD τ) (O₀ c) W)
      ⊢ iprop(((finished I c ∗ windows I c ∗ wR c (outB I c) ∗ wC c (ctxV (heads1 I c)) ∗ due c 6) -∗ Q ⟨⟩)
          -∗ bodyWp c (here (cc0_body (F := F))) Q) := by
  rw [cc0_body_eq_skeleton]
  unfold here cc0_body_skel ready finished windows
  iintro ⟨⟨#HR, #Hlev, ⟨P0, P1, P2⟩, Hcr, Hat, ⟨Sk0, Sk1, Sk2, Sk3, Sk4, Sk5⟩⟩, ⟨HX, HQ, HU, HV, HW⟩, HG, HC, ⟨C0, C1, C2, C3, C4, C5⟩, HO⟩ Hk
  iapply (body_bind c _ _)
  iapply (part1 (blocks I) K c) $$ [P0 P1 P2 HO]
  · isplitr; · iexact HR
    isplitl [P0]; · iexact P0
    isplitl [P1]; · iexact P1
    isplitl [P2]; · iexact P2
    iexact HO
  iintro HO
  iapply (body_bind c _ _)
  iapply (part2 c _ _ _)
  iapply (body_bind c _ _)
  iapply (part3 c _ _ _ _ _) $$ [HX HQ HU HV]
  · isplitl [HX]; · iexact HX
    isplitl [HQ]; · iexact HQ
    isplitl [HU]; · iexact HU
    iexact HV
  iintro ⟨HX, HQ, HU, HV⟩
  iapply (body_bind c _ _)
  iapply (part4 c _ _ _ _) $$ [HU HV HC]
  · isplitl [HU]; · iexact HU
    isplitl [HV]; · iexact HV
    iexact HC
  iintro ⟨HU, HV, HC⟩
  iapply (body_bind c _ _)
  iapply (part5 c _ _ _) $$ [HU HV HC]
  · isplitl [HU]; · iexact HU
    isplitl [HV]; · iexact HV
    iexact HC
  iintro ⟨HU, HV, HC⟩
  ihave HC := (show wC c _ ⊢ wC c (ctxV (heads0 I c)) from ent_eq (congrArg _ (put4_heads0 I c G))) $$ HC
  iapply (body_bind c _ _)
  iapply (part6 (blocks I) K c _ rfl) $$ [HX HQ HC HW C0 Hcr Hat Sk0 HO]
  · isplitr; · iexact HR
    isplitr; · iexact Hlev
    isplitl [HX]; · iexact HX
    isplitl [HQ]; · iexact HQ
    isplitl [HC]; · iexact HC
    isplitl [HW]; · iexact HW
    isplitl [C0]; · iexact C0
    isplitl [Hcr]; · iexact Hcr
    isplitl [Hat]; · iexact Hat
    isplitl [Sk0]; · iexact Sk0
    iexact HO
  iintro ⟨HX, HQ, HC, HW, Hat, So0, M1, M2, M3, M4, M5, HO⟩
  iapply (body_bind c _ _)
  iapply (part7 c _ _) $$ [HU HV HC]
  · isplitl [HU]; · iexact HU
    isplitl [HV]; · iexact HV
    iexact HC
  iintro ⟨HU, HV, HC⟩
  iapply (body_bind c _ _)
  iapply (part8 c _ _ _ _) $$ [HU HV HC]
  · isplitl [HU]; · iexact HU
    isplitl [HV]; · iexact HV
    iexact HC
  iintro ⟨HU, HV, HC⟩
  iapply (body_bind c _ _)
  iapply (part9 c _ _) $$ [HV HC HW C1]
  · isplitl [HV]; · iexact HV
    isplitl [HC]; · iexact HC
    isplitl [HW]; · iexact HW
    iexact C1
  iintro ⟨HV, HC, HW, C1⟩
  ihave HC := (show wC c _ ⊢ wC c (ctxV (heads1 I c)) from ent_eq (congrArg _ (put4_heads1 I c (ctxV (heads0 I c))))) $$ HC
  ihave C1 := (show commO c 1 _ ⊢ commO c 1 (blocks I 1 c) from ent_eq (congrArg (fun T => commO c 1 (k0_pay28 (cB T) (wB (I.o c)))) (put4_heads1 I c (ctxV (heads0 I c))))) $$ C1
  iapply (body_bind c _ _)
  iapply (part10 (blocks I) K c _) $$ [Sk1 M1 C1 So0 HO]
  · isplitr; · iexact HR
    isplitr; · iexact Hlev
    isplitl [Sk1]; · iexact Sk1
    isplitl [M1]; · iexact M1
    isplitl [C1]; · iexact C1
    isplitl [So0]; · iexact So0
    iexact HO
  iintro ⟨So1, Se0, C0, D0, HO⟩
  iapply (body_bind c _ _)
  iapply (part11 (blocks I) K c _ _ rfl) $$ [Sk2 M2 D0 C2 So1 HO]
  · isplitr; · iexact HR
    isplitr; · iexact Hlev
    isplitl [Sk2]; · iexact Sk2
    isplitl [M2]; · iexact M2
    isplitl [D0]; · iexact D0
    isplitl [C2]; · iexact C2
    isplitl [So1]; · iexact So1
    iexact HO
  iintro ⟨D0, So2, Ss1, C1, HO⟩
  iapply (body_bind c _ _)
  iapply (part12 (blocks I) K c _ _) $$ [Ss1 C1 C3 HO]
  · isplitr; · iexact HR
    isplitr; · iexact Hlev
    isplitl [Ss1]; · iexact Ss1
    isplitl [C1]; · iexact C1
    isplitl [C3]; · iexact C3
    iexact HO
  iintro ⟨Se1, C1, D1, C3, HO⟩
  iapply (body_bind c _ _)
  iapply (part13 (blocks I) K c _) $$ [Sk3 M3 C3 So2 HO]
  · isplitr; · iexact HR
    isplitr; · iexact Hlev
    isplitl [Sk3]; · iexact Sk3
    isplitl [M3]; · iexact M3
    isplitl [C3]; · iexact C3
    isplitl [So2]; · iexact So2
    iexact HO
  iintro ⟨So3, Se2, C2, D2, HO⟩
  iapply (body_bind c _ _)
  iapply (part14 (blocks I) K c _ _ _ rfl) $$ [Sk4 M4 C4 So3 HO]
  · isplitr; · iexact HR
    isplitr; · iexact Hlev
    isplitl [Sk4]; · iexact Sk4
    isplitl [M4]; · iexact M4
    isplitl [C4]; · iexact C4
    isplitl [So3]; · iexact So3
    iexact HO
  iintro ⟨So4, Ss3, C3, HO⟩
  iapply (body_bind c _ _)
  iapply (part15 (blocks I) K c _ _) $$ [Ss3 C3 C5 HO]
  · isplitr; · iexact HR
    isplitr; · iexact Hlev
    isplitl [Ss3]; · iexact Ss3
    isplitl [C3]; · iexact C3
    isplitl [C5]; · iexact C5
    iexact HO
  iintro ⟨Se3, C3, D3, C5, HO⟩
  iapply (body_bind c _ _)
  iapply (part16 (blocks I) K c _) $$ [Sk5 M5 C5 So4 HO]
  · isplitr; · iexact HR
    isplitr; · iexact Hlev
    isplitl [Sk5]; · iexact Sk5
    isplitl [M5]; · iexact M5
    isplitl [C5]; · iexact C5
    isplitl [So4]; · iexact So4
    iexact HO
  iintro ⟨So5, Se4, C4, D4, HO⟩
  iapply (body_bind c _ _)
  iapply (part17 (blocks I) K c _ _) $$ [HG So5 HO]
  · isplitr; · iexact HR
    isplitr; · iexact Hlev
    isplitl [HG]; · iexact HG
    isplitl [So5]; · iexact So5
    iexact HO
  iintro ⟨HG, Se5, C5, D5, HO⟩
  simp only [Prog.lift, Prog.bind_op, Prog.bind_ret, Prog.pure_eq_ret]
  iapply (load_row c 1 _) $$ HG; iintro HG
  iapply (store_row c 1 _) $$ HG; iintro HG
  ihave HG := (show wR c _ ⊢ wR c (outB I c) from ent_eq (congrArg _ (put2_outs I c R))) $$ HG
  iapply (body_ret c _)
  iapply Hk
  isplitl [Hat Se0 Se1 Se2 Se3 Se4 Se5 C0 C1 C2 C3 C4 C5 D0 D1 D2 D3 D4 D5]
  · isplitl [Hat]; · iexact Hat
    isplitl [Se0 Se1 Se2 Se3 Se4 Se5]
    · isplitl [Se0]; · iexact Se0
      isplitl [Se1]; · iexact Se1
      isplitl [Se2]; · iexact Se2
      isplitl [Se3]; · iexact Se3
      isplitl [Se4] <;> iassumption
    isplitl [C0 C1 C2 C3 C4 C5]
    · isplitl [C0]; · iexact C0
      isplitl [C1]; · iexact C1
      isplitl [C2]; · iexact C2
      isplitl [C3]; · iexact C3
      isplitl [C4] <;> iassumption
    isplitl [D0]; · iexact D0
    isplitl [D1]; · iexact D1
    isplitl [D2]; · iexact D2
    isplitl [D3]; · iexact D3
    isplitl [D4] <;> iassumption
  isplitl [HX HQ HU HV HW]
  · isplitl [HX]; · iexact HX
    isplitl [HQ]; · iexact HQ
    isplitl [HU]; · iexact HU
    isplitl [HV] <;> iassumption
  isplitl [HG]; · iexact HG
  isplitl [HC] <;> iassumption

end Body

end Cert.Exchange

end
-- ==== Proof.Region.lean ====
/-
The scratch buffers as six slots, the proof data of the kernel's region, and its body obligation.
-/
module

public import proofs.«01_k».proof.Proof.Body
public import proofs.«01_k».proof.Proof.Gen.KernelIdeal.Regions

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## A buffer of six slots -/

theorem slots_disjoint : ∀ x y : Fin 6, x ≠ y → Disjoint (slotR x).set (slotR y).set := by
  intro x y h
  rw [Finset.disjoint_left]
  intro i hx hy
  obtain ⟨j, rfl⟩ := (slotR x).exists_idx_of_mem hx
  obtain ⟨k, hk⟩ := (slotR y).exists_idx_of_mem hy
  apply h
  have hj0 : (j 0).val < 1 := (j 0).isLt
  have hk0 : (k 0).val < 1 := (k 0).isLt
  have hj1 : (j 1).val < 1 := (j 1).isLt
  have hk1 : (k 1).val < 1 := (k 1).isLt
  have h0 : bs y + 1 * (k 0).val = bs x + 1 * (j 0).val := congrArg (fun i : S2x3x128x512.Idx => (i 0).val) hk
  have h1 : rs y + 1 * (k 1).val = rs x + 1 * (j 1).val := congrArg (fun i : S2x3x128x512.Idx => (i 1).val) hk
  have e : ∀ x y : Fin 6, bs y = bs x → rs y = rs x → x = y := by decide
  exact e x y (by omega) (by omega)

/-- The slot an index lies in. -/
def slotIx (i : S2x3x128x512.Idx) : Fin 6 :=
  ⟨2 * (i 1).val + (i 0).val, by have h0 : (i 0).val < 2 := (i 0).isLt; have h1 : (i 1).val < 3 := (i 1).isLt; omega⟩
/-- The index inside it. -/
def subIx (i : S2x3x128x512.Idx) : S1x1x128x512.Idx :=
  Fin.cons ⟨0, by decide⟩ (Fin.cons ⟨0, by decide⟩ (Fin.cons (i 2) (Fin.cons (i 3) finZeroElim)))

theorem slot_parts : ∀ x : Fin 6, bs x = x.val % 2 ∧ rs x = x.val / 2 := by decide

theorem slot_emb (i : S2x3x128x512.Idx) : (slotR (slotIx i)).emb (subIx i) = i := by
  have h0 : (i 0).val < 2 := (i 0).isLt
  have hx : (slotIx i).val = 2 * (i 1).val + (i 0).val := rfl
  obtain ⟨hb, hr⟩ := slot_parts (slotIx i)
  funext a
  apply Fin.ext
  match a with
  | ⟨0, _⟩ => show bs (slotIx i) + 1 * 0 = (i 0).val; omega
  | ⟨1, _⟩ => show rs (slotIx i) + 1 * 0 = (i 1).val; omega
  | ⟨2, _⟩ => show 0 + 1 * (i 2).val = (i 2).val; omega
  | ⟨3, _⟩ => show 0 + 1 * (i 3).val = (i 3).val; omega

theorem emb_in (x : Fin 6) (j : S1x1x128x512.Idx) : (slotR x).emb j ∈ (slotR x).set := (slotR x).idx_mem j

theorem slots_cover : (Finset.univ : Finset (Fin 6)).biUnion (fun x => (slotR x).set) = Finset.univ := by
  ext i
  simp only [Finset.mem_biUnion, Finset.mem_univ, true_and, iff_true]
  exact ⟨slotIx i, by have h := emb_in (slotIx i) (subIx i); rwa [slot_emb] at h⟩

/-- Contents put together from the six slots'. -/
def glue (Z : Fin 6 → S1x1x128x512.Idx → Elt F .bf16) : S2x3x128x512.Idx → Elt F .bf16 := fun i => Z (slotIx i) (subIx i)

theorem glue_at (Z : Fin 6 → S1x1x128x512.Idx → Elt F .bf16) (x : Fin 6) : (fun j => glue Z ((slotR x).emb j)) = Z x := by
  funext j
  have h : slotIx ((slotR x).emb j) = x := by
    by_contra hn
    exact Finset.disjoint_left.mp (slots_disjoint _ _ hn)
      (by have h := emb_in (slotIx ((slotR x).emb j)) (subIx ((slotR x).emb j)); rwa [slot_emb] at h)
      (emb_in x j)
  have h' : (slotR x).emb (subIx ((slotR x).emb j)) = (slotR x).emb j := by
    have e := slot_emb ((slotR x).emb j)
    rwa [h] at e
  show Z (slotIx _) (subIx _) = Z x j
  rw [h, (slotR x).emb.injective h']

theorem six_sep (P : Fin 6 → sProp (MT nD τ sig Unit (Elt F) ℕ UU ℕ)) : bigSep Finset.univ P = six P := by
  rw [bigSep_univ_eq_bigSepL [0, 1, 2, 3, 4, 5] (by decide) (by decide), bigSepL_cons_cons, bigSepL_cons_cons, bigSepL_cons_cons, bigSepL_cons_cons,
    bigSepL_cons_cons, bigSepL_singleton]
  rfl

section Slots
variable (c : Dev nD)

theorem comm_split (f : S2x3x128x512.Idx → Elt F .bf16) :
    (owns (c : Thread nD τ) commW fullShare f : sProp 𝕄) ⊢ six (fun x => commO c x (fun j => f ((slotR x).emb j))) := by
  rw [← six_sep]
  exact owns_rects (c : Thread nD τ) commW fullShare slotR (fun _ _ => rfl) slots_disjoint slots_cover f
theorem land_split (f : S2x3x128x512.Idx → Elt F .bf16) :
    (owns (c : Thread nD τ) landW fullShare f : sProp 𝕄) ⊢ six (fun x => landO c x (fun j => f ((slotR x).emb j))) := by
  rw [← six_sep]
  exact owns_rects (c : Thread nD τ) landW fullShare slotR (fun _ _ => rfl) slots_disjoint slots_cover f

theorem comm_join (Z : Fin 6 → S1x1x128x512.Idx → Elt F .bf16) :
    six (fun x => commO c x (Z x)) ⊢ (owns (c : Thread nD τ) commW fullShare (glue Z) : sProp 𝕄) := by
  have h := owns_of_rects (Ix := Unit) (Name := ℕ) (U := UU) (Lvl := ℕ) (c : Thread nD τ) commW fullShare slotR (fun _ _ => rfl) slots_disjoint slots_cover (glue Z)
  simp only [glue_at] at h
  rw [← six_sep]
  exact h
theorem land_join (Z : Fin 6 → S1x1x128x512.Idx → Elt F .bf16) :
    six (fun x => landO c x (Z x)) ⊢ (owns (c : Thread nD τ) landW fullShare (glue Z) : sProp 𝕄) := by
  have h := owns_of_rects (Ix := Unit) (Name := ℕ) (U := UU) (Lvl := ℕ) (c : Thread nD τ) landW fullShare slotR (fun _ _ => rfl) slots_disjoint slots_cover (glue Z)
  simp only [glue_at] at h
  rw [← six_sep]
  exact h

/-- The three scratch buffers, at some contents. -/
def scratch : sProp 𝕄 :=
  iprop((∃ f, owns (c : Thread nD τ) commW fullShare f) ∗ (∃ f, owns (c : Thread nD τ) landW fullShare f)
    ∗ ∃ f, owns (c : Thread nD τ) (Memref.whole cc0_scratch2) fullShare f)

theorem scratch_eq : (Pipeline.scopedRest (Ix := Unit) (Name := ℕ) (U := UU) (Lvl := ℕ) (Val := Elt F) spec0 c : sProp 𝕄) = scratch c := by
  unfold scratch
  simp only [owns_whole]
  exact scopedRest0_eq c

end Slots

/-! ## The proof data -/

section Data
variable (m : (ℓ : Loc nD τ sig) → Buf (Elt F) ℓ)

/-- What the windows stage. -/
def insOf : Ins F where
  x c := (win0_0.blk t0_0).view.read (Elt F) (V1 m c main_arg0)
  q c := (win0_1.blk t0_0).view.read (Elt F) (V1 m c main_arg1)
  k c := (win0_2.blk t0_0).view.read (Elt F) (V1 m c main_v15)
  v c := (win0_3.blk t0_0).view.read (Elt F) (V1 m c main_v16)
  o c := (win0_4.blk t0_0).view.read (Elt F) (V1 m c main_arg4)

variable (c : Dev nD)

/-- The region's entry, after the scratch buffers are cut. -/
def phi0 : sProp 𝕄 :=
  iprop((∃ K, ready (insOf m) K c) ∗ (∃ f, owns (c : Thread nD τ) commW fullShare f) ∗ (∃ f, owns (c : Thread nD τ) (Memref.whole cc0_scratch2) fullShare f)
    ∗ ∃ r, prngReg c r)

/-- Its exit: every counter back at zero. -/
def phi1 : sProp 𝕄 :=
  iprop(semVal (barCell c) 0 ∗ Pipeline.ownSems0 osem c ∗ scratch c ∗ ∃ r, prngReg c r)

/-- What each window's staging buffer holds after the body. -/
def afterW (w : Fin 6) : (win0 w).block.Idx → Elt F (win0 w).elt :=
  match w with
  | 0 => (insOf m).x c
  | 1 => (insOf m).q c
  | 2 => (insOf m).k c
  | 3 => (insOf m).v c
  | 4 => (insOf m).o c
  | 5 => outB (insOf m) c
  | ⟨_ + 6, h⟩ => absurd h (Nat.not_lt.2 (Nat.le_add_left _ _))

def dat : Pipeline.Dat τ (Elt F) Unit ℕ UU ℕ cfg0 c where
  A w := V1 m c (Proc.devRef .tc (Pipeline.arrRef spec0 w))
  after w _ := afterW m c w
  Φ t := if t.val = 0 then phi0 m c else phi1 c
  q _ := fullShare
  owed t := if t.val = 0 then O₀ c else 0

abbrev pdats (p : Fin 1) (c : Dev nD) : Pipeline.Dat τ (Elt F) Unit ℕ UU ℕ ((Pipeline.pin (pcfgs (F := F)) adm) p) c := dat m c

theorem phi_first : (dat m c).Φ t0_0.castSucc = phi0 m c := by
  show (if (t0_0.castSucc : Fin (cfg0.N + 1)).val = 0 then phi0 m c else phi1 c) = _
  exact if_pos rfl
theorem phi_last : (dat m c).Φ (Fin.last _) = phi1 c := by
  show (if (Fin.last cfg0.N).val = 0 then phi0 m c else phi1 c) = _
  rw [Fin.val_last, if_neg (by rw [show cfg0.N = 1 from N_0]; decide)]
theorem succ_last : (t0_0.succ : Fin (cfg0.N + 1)) = Fin.last _ := Fin.ext (by rw [Fin.val_last]; exact N_0.symm)
theorem owed_first : (dat m c).owed t0_0.castSucc = O₀ c := by
  show (if (t0_0.castSucc : Fin (cfg0.N + 1)).val = 0 then O₀ c else 0) = _
  exact if_pos rfl
theorem owed_last : (dat m c).owed (Fin.last _) = 0 := by
  show (if (Fin.last cfg0.N).val = 0 then O₀ c else 0) = 0
  rw [Fin.val_last, if_neg (by rw [show cfg0.N = 1 from N_0]; decide)]
theorem share_full (w : Fin cfg0.W) : (dat m c).share w = fullShare := by unfold Pipeline.Dat.share; split <;> rfl
theorem fetched (w : Fin cfg0.W) (h : (cfg0.win w).isOut = false) : (cfg0.win w).fetch t0_0 = true := by
  revert h; revert w; decide

theorem debt_in (W : Waits sig Unit) (t : Fin (cfg0.N + 1)) (O : CellTallies nD τ sig Unit) (h : (dat m c).owed t = O) :
    (owes (c : Thread nD τ) O W : sProp 𝕄) ⊢ ((dat m c).owesAt () t : sProp 𝕄) := by
  unfold Pipeline.Dat.owesAt Pipeline.owesWithin Pipeline.Dat.bound
  rw [h, show (dat m c).recorded t = Set.univ from rfl]
  iintro HO; iexists W
  isplitr; · ipureintro; exact fun _ _ => Or.inl trivial
  iexact HO
theorem debt_out (t : Fin (cfg0.N + 1)) (O : CellTallies nD τ sig Unit) (h : (dat m c).owed t = O) :
    ((dat m c).owesAt () t : sProp 𝕄) ⊢ iprop(∃ W, owes (c : Thread nD τ) O W) := by
  unfold Pipeline.Dat.owesAt Pipeline.owesWithin
  rw [h]
  iintro ⟨%W, -, HO⟩
  iexists W; iexact HO

/-- The twelve transfer counters, sends then landings. -/
theorem counters : six (fun x => iprop(semVal (sendCell c x) 0 ∗ semVal (landCell c x) 0)) ⊢ (Pipeline.ownSems0 osem c : sProp 𝕄) := by
  unfold Pipeline.ownSems0
  rw [bigSep_univ_eq_bigSepL [0, 6, 3, 9, 1, 7, 4, 10, 2, 8, 5, 11] (by decide) (by decide)]
  show _ ⊢ iprop(semVal (sendCell c 0) 0 ∗ semVal (landCell c 0) 0 ∗ semVal (sendCell c 1) 0 ∗ semVal (landCell c 1) 0 ∗ semVal (sendCell c 2) 0 ∗ semVal (landCell c 2) 0 ∗ semVal (sendCell c 3) 0 ∗ semVal (landCell c 3) 0 ∗ semVal (sendCell c 4) 0 ∗ semVal (landCell c 4) 0 ∗ semVal (sendCell c 5) 0 ∗ semVal (landCell c 5) 0)
  iintro ⟨⟨a0, b0⟩, ⟨a1, b1⟩, ⟨a2, b2⟩, ⟨a3, b3⟩, ⟨a4, b4⟩, a5, b5⟩
  isplitl [a0]; · iexact a0
  isplitl [b0]; · iexact b0
  isplitl [a1]; · iexact a1
  isplitl [b1]; · iexact b1
  isplitl [a2]; · iexact a2
  isplitl [b2]; · iexact b2
  isplitl [a3]; · iexact a3
  isplitl [b3]; · iexact b3
  isplitl [a4]; · iexact a4
  isplitl [b4]; · iexact b4
  isplitl [a5]; · iexact a5
  iexact b5

/-- Closing every cell of the device. -/
theorem close_all (K : GSem nD τ sig → ℕ) :
    iprop(records (blocks (insOf m)) K ∗ finished (insOf m) c ∗ (∃ f, owns (c : Thread nD τ) (Memref.whole cc0_scratch2) fullShare f) ∗ ∃ r, prngReg c r)
      ⊢ (|={Set.univ}=> phi1 c : sProp 𝕄) := by
  unfold finished phi1
  iintro ⟨#HR, ⟨Hb, ⟨s0, s1, s2, s3, s4, s5⟩, Hc, Hl⟩, HC, Hp⟩
  imod (close_bar (blocks (insOf m)) K c) $$ [Hb] with Zb
  · isplitr; · iexact HR
    iexact Hb
  imod (close_slot (blocks (insOf m)) K c 0) $$ [s0] with z0
  · isplitr; · iexact HR
    iexact s0
  imod (close_slot (blocks (insOf m)) K c 1) $$ [s1] with z1
  · isplitr; · iexact HR
    iexact s1
  imod (close_slot (blocks (insOf m)) K c 2) $$ [s2] with z2
  · isplitr; · iexact HR
    iexact s2
  imod (close_slot (blocks (insOf m)) K c 3) $$ [s3] with z3
  · isplitr; · iexact HR
    iexact s3
  imod (close_slot (blocks (insOf m)) K c 4) $$ [s4] with z4
  · isplitr; · iexact HR
    iexact s4
  imod (close_slot (blocks (insOf m)) K c 5) $$ [s5] with z5
  · isplitr; · iexact HR
    iexact s5
  imodintro
  isplitl [Zb]; · iexact Zb
  isplitl [z0 z1 z2 z3 z4 z5]
  · iapply (counters c)
    isplitl [z0]; · iexact z0
    isplitl [z1]; · iexact z1
    isplitl [z2]; · iexact z2
    isplitl [z3]; · iexact z3
    isplitl [z4]; · iexact z4
    iexact z5
  isplitl [Hc Hl HC]
  · unfold scratch
    isplitl [Hc]
    · ihave H := (comm_join c (fun x => blocks (insOf m) x c)) $$ Hc
      iexists (glue (fun x => blocks (insOf m) x c)); iexact H
    isplitl [Hl]
    · ihave H := (land_join c (fun x => blocks (insOf m) x (pr (stp x) c))) $$ Hl
      iexists (glue (fun x => blocks (insOf m) x (pr (stp x) c))); iexact H
    iexact HC
  iexact Hp

theorem staged0 (d) : (dat m c).before (0 : Fin 6) t0_0 d = (insOf m).x c := by
  unfold Pipeline.Dat.before; rw [if_pos (fetched (0 : Fin 6) rfl)]; rfl
theorem staged1 (d) : (dat m c).before (1 : Fin 6) t0_0 d = (insOf m).q c := by
  unfold Pipeline.Dat.before; rw [if_pos (fetched (1 : Fin 6) rfl)]; rfl
theorem staged2 (d) : (dat m c).before (2 : Fin 6) t0_0 d = (insOf m).k c := by
  unfold Pipeline.Dat.before; rw [if_pos (fetched (2 : Fin 6) rfl)]; rfl
theorem staged3 (d) : (dat m c).before (3 : Fin 6) t0_0 d = (insOf m).v c := by
  unfold Pipeline.Dat.before; rw [if_pos (fetched (3 : Fin 6) rfl)]; rfl
theorem staged4 (d) : (dat m c).before (4 : Fin 6) t0_0 d = (insOf m).o c := by
  unfold Pipeline.Dat.before; rw [if_pos (fetched (4 : Fin 6) rfl)]; rfl

/-- The body's obligation. -/
theorem body_ok : Pipeline.BodyObligation (dat m c) defs₀ 𝒱₀ () Set.univ := fun t => by
  rw [fin_N0 t, succ_last, phi_first, phi_last, bigSep_W0, bigSep_W0]
  show iprop(phi0 m c ∗ (dat m c).owesAt () t0_0.castSucc ∗ (∃ d, wX c ((dat m c).before (0 : Fin 6) t0_0 d)) ∗ (∃ d, wQ c ((dat m c).before (1 : Fin 6) t0_0 d)) ∗ (∃ d, wK c ((dat m c).before (2 : Fin 6) t0_0 d)) ∗ (∃ d, wV c ((dat m c).before (3 : Fin 6) t0_0 d)) ∗ (∃ d, wO c ((dat m c).before (4 : Fin 6) t0_0 d)) ∗ (∃ d, wR c ((dat m c).before (5 : Fin 6) t0_0 d)))
    ⊢ wp frame (wpE (Λ := Λ₀) (Val := Elt F) defs₀ 𝒱₀ (c : Thread nD τ) none) Set.univ (here (cc0_body (F := F)))
      (fun _ => iprop(phi1 c ∗ (dat m c).owesAt () (Fin.last cfg0.N) ∗ wX c ((insOf m).x c) ∗ wQ c ((insOf m).q c) ∗ wK c ((insOf m).k c) ∗ wV c ((insOf m).v c) ∗ wO c ((insOf m).o c) ∗ wR c (outB (insOf m) c)))
  iintro ⟨Hphi, HO, ⟨%d0, H0⟩, ⟨%d1, H1⟩, ⟨%d2, H2⟩, ⟨%d3, H3⟩, ⟨%d4, H4⟩, ⟨%d5, H5⟩⟩
  ihave HO := (debt_out m c _ (O₀ c) (owed_first m c)) $$ HO
  icases HO with ⟨%W, HO⟩
  unfold phi0
  icases Hphi with ⟨⟨%K, Hr⟩, ⟨%f, Hc⟩, ⟨%g, HC⟩, Hp⟩
  ihave Hc := (comm_split c f) $$ Hc
  ihave #HR := (show ready (insOf m) K c ⊢ records (blocks (insOf m)) K from by unfold ready; iintro ⟨#H, -⟩; iexact H) $$ Hr
  rw [staged0, staged1, staged2, staged3, staged4]
  iapply (wp_fupd frame _ Set.univ _ _)
  iapply (sound (insOf m) K c (R := (dat m c).before (5 : Fin 6) t0_0 d5) (G := g) (Z := fun x j => f ((slotR x).emb j))) $$ [Hr Hc HC HO H0 H1 H2 H3 H4 H5]
  · isplitl [Hr]; · iexact Hr
    isplitl [H0 H1 H2 H3 H4]
    · unfold windows
      isplitl [H0]; · iexact H0
      isplitl [H1]; · iexact H1
      isplitl [H2]; · iexact H2
      isplitl [H3]; · iexact H3
      iexact H4
    isplitl [H5]; · iexact H5
    isplitl [HC]; · iexact HC
    isplitl [Hc]; · iexact Hc
    iexact HO
  unfold windows due
  iintro ⟨Hf, ⟨H0, H1, H2, H3, H4⟩, H5, HC, ⟨%W', HO⟩⟩
  imod (close_all m c K) $$ [Hf HC Hp] with Hphi
  · isplitr; · iexact HR
    isplitl [Hf]; · iexact Hf
    isplitl [HC]; · iexists (ctxV (heads1 (insOf m) c)); iexact HC
    iexact Hp
  imodintro
  isplitl [Hphi]; · iexact Hphi
  isplitl [HO]; · iapply (debt_in m c W' (Fin.last _) _ ((owed_last m c).trans (ow_done c).symm)); iexact HO
  isplitl [H0]; · iexact H0
  isplitl [H1]; · iexact H1
  isplitl [H2]; · iexact H2
  isplitl [H3]; · iexact H3
  isplitl [H4]; · iexact H4
  iexact H5

end Data

end Cert.Exchange

end
-- ==== Proof.Talk.lean ====
/-
The kernel's region as a segment: opening the transfer cells on entry, the scratch buffers cut and joined, the result array on exit.
-/
module

public import proofs.«01_k».proof.Proof.Region
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Segment
variable (m : (ℓ : Loc nD τ sig) → Buf (Elt F) ℓ) (K : GSem nD τ sig → ℕ) (c : Dev nD)

/-- The twelve transfer counters, pair by pair. -/
theorem counters_out : (Pipeline.ownSems0 osem c : sProp 𝕄) ⊢ six (fun x => iprop(semVal (sendCell c x) 0 ∗ semVal (landCell c x) 0)) := by
  unfold Pipeline.ownSems0
  rw [bigSep_univ_eq_bigSepL [0, 6, 3, 9, 1, 7, 4, 10, 2, 8, 5, 11] (by decide) (by decide)]
  show iprop(semVal (sendCell c 0) 0 ∗ semVal (landCell c 0) 0 ∗ semVal (sendCell c 1) 0 ∗ semVal (landCell c 1) 0 ∗ semVal (sendCell c 2) 0 ∗ semVal (landCell c 2) 0 ∗ semVal (sendCell c 3) 0 ∗ semVal (landCell c 3) 0 ∗ semVal (sendCell c 4) 0 ∗ semVal (landCell c 4) 0 ∗ semVal (sendCell c 5) 0 ∗ semVal (landCell c 5) 0) ⊢ _
  iintro ⟨a0, b0, a1, b1, a2, b2, a3, b3, a4, b4, a5, b5⟩
  isplitl [a0 b0]
  · isplitl [a0]; · iexact a0
    iexact b0
  isplitl [a1 b1]
  · isplitl [a1]; · iexact a1
    iexact b1
  isplitl [a2 b2]
  · isplitl [a2]; · iexact a2
    iexact b2
  isplitl [a3 b3]
  · isplitl [a3]; · iexact a3
    iexact b3
  isplitl [a4 b4]
  · isplitl [a4]; · iexact a4
    iexact b4
  isplitl [a5]; · iexact a5
  iexact b5

/-- The tokens of a slot's two duties this device pays. -/
abbrev slotToks (x : Fin 6) : sProp 𝕄 := iprop(dutyTok ER (sendCell c x) 0 0 ∗ dutyTok ER (landCell (pr (stp x) c) x) 0 0)
/-- The tokens of its three signals. -/
abbrev barToks : sProp 𝕄 := iprop(dutyTok ER (barCell (pr 0 c)) 0 0 ∗ dutyTok ER (barCell (pr 1 c)) 0 1 ∗ dutyTok ER (barCell (pr 2 c)) 0 2)

/-- What stays with a device from launch: its barrier position, its rights to open, the tokens of the duties it pays. -/
def linear : sProp 𝕄 :=
  iprop(atPos ER (barCell c) 0 ∅ 0 ∗ six (fun x => iprop(openTok ER (sendCell c x) ∗ openTok ER (landCell c x))) ∗ barToks c ∗ six (slotToks c))
/-- The credit others' dues give it. -/
def credits : sProp 𝕄 := iprop(cred (tallyAt (barCell c) () 3) ∗ six (fun x => cred (tallyAt (landCell c x) () N)))

/-- The state carried to the region. -/
def carried : sProp 𝕄 := iprop((∃ K, records (blocks (insOf m)) K ∗ linear c) ∗ credits c)
/-- The state inside, the transfer cells open. -/
def opened : sProp 𝕄 :=
  iprop((∃ K, records (blocks (insOf m)) K ∗ atPos ER (barCell c) 0 ∅ 0 ∗ barToks c ∗ six (slotKit c) ∗ six (fun x => reached ER (landCell c x) 0))
    ∗ cred (tallyAt (barCell c) () 3) ∗ levAts L lv)

/-- Opening a slot's two cells. -/
theorem open_slot (x : Fin 6) :
    iprop(records (blocks (insOf m)) K ∗ (openTok ER (sendCell c x) ∗ openTok ER (landCell c x)) ∗ (semVal (sendCell c x) 0 ∗ semVal (landCell c x) 0)
        ∗ slotToks c x ∗ cred (tallyAt (landCell c x) () N))
      ⊢ (|={Set.univ}=> iprop(slotKit c x ∗ reached ER (landCell c x) 0) : sProp 𝕄) := by
  iintro ⟨#HR, ⟨o, o'⟩, ⟨v, v'⟩, ⟨t, t'⟩, d⟩
  imod (Rounds.cell_open ER (rd (blocks (insOf m))) (g := sendCell c x) (Set.mem_univ (K (sendCell c x)))) $$ [o v] with ⟨a, #r⟩
  · isplitr; · iapply (inv_at (blocks (insOf m)) K (send_mem c x)); iexact HR
    isplitl [o]; · iexact o
    iexact v
  imod (Rounds.cell_open ER (rd (blocks (insOf m))) (g := landCell c x) (Set.mem_univ (K (landCell c x)))) $$ [o' v'] with ⟨a', #r'⟩
  · isplitr; · iapply (inv_at (blocks (insOf m)) K (land_mem c x)); iexact HR
    isplitl [o']; · iexact o'
    iexact v'
  imodintro
  unfold slotKit
  isplitl [a a' d t t']
  · isplitl [a]; · iexact a
    isplitl [a']; · iexact a'
    isplitl [d]; · iexact d
    isplitl [t]; · iexact t
    isplitl [t']; · iexact t'
    iexact r
  iexact r'

theorem enter : iprop(carried m c ∗ Pipeline.ownSems0 osem c ∗ levAts L lv) ⊢ (|={Set.univ}=> opened m c : sProp 𝕄) := by
  unfold carried opened linear credits
  iintro ⟨⟨⟨%K, #HR, Hat, ⟨o0, o1, o2, o3, o4, o5⟩, Hb, ⟨d0, d1, d2, d3, d4, d5⟩⟩, Hcr, ⟨e0, e1, e2, e3, e4, e5⟩⟩, Hs, #Hlev⟩
  ihave Hs := (counters_out c) $$ Hs
  icases Hs with ⟨v0, v1, v2, v3, v4, v5⟩
  imod (open_slot m K c 0) $$ [o0 v0 d0 e0] with ⟨k0, #r0⟩
  · isplitr; · iexact HR
    isplitl [o0]; · iexact o0
    isplitl [v0]; · iexact v0
    isplitl [d0]; · iexact d0
    iexact e0
  imod (open_slot m K c 1) $$ [o1 v1 d1 e1] with ⟨k1, #r1⟩
  · isplitr; · iexact HR
    isplitl [o1]; · iexact o1
    isplitl [v1]; · iexact v1
    isplitl [d1]; · iexact d1
    iexact e1
  imod (open_slot m K c 2) $$ [o2 v2 d2 e2] with ⟨k2, #r2⟩
  · isplitr; · iexact HR
    isplitl [o2]; · iexact o2
    isplitl [v2]; · iexact v2
    isplitl [d2]; · iexact d2
    iexact e2
  imod (open_slot m K c 3) $$ [o3 v3 d3 e3] with ⟨k3, #r3⟩
  · isplitr; · iexact HR
    isplitl [o3]; · iexact o3
    isplitl [v3]; · iexact v3
    isplitl [d3]; · iexact d3
    iexact e3
  imod (open_slot m K c 4) $$ [o4 v4 d4 e4] with ⟨k4, #r4⟩
  · isplitr; · iexact HR
    isplitl [o4]; · iexact o4
    isplitl [v4]; · iexact v4
    isplitl [d4]; · iexact d4
    iexact e4
  imod (open_slot m K c 5) $$ [o5 v5 d5 e5] with ⟨k5, #r5⟩
  · isplitr; · iexact HR
    isplitl [o5]; · iexact o5
    isplitl [v5]; · iexact v5
    isplitl [d5]; · iexact d5
    iexact e5
  imodintro
  isplitr [Hcr]
  · iexists K
    isplitr; · iexact HR
    isplitl [Hat]; · iexact Hat
    isplitl [Hb]; · iexact Hb
    isplitl [k0 k1 k2 k3 k4 k5]
    · isplitl [k0]; · iexact k0
      isplitl [k1]; · iexact k1
      isplitl [k2]; · iexact k2
      isplitl [k3]; · iexact k3
      isplitl [k4]; · iexact k4
      iexact k5
    isplitr; · iexact r0
    isplitr; · iexact r1
    isplitr; · iexact r2
    isplitr; · iexact r3
    isplitr; · iexact r4
    iexact r5
  isplitl [Hcr]; · iexact Hcr
  iexact Hlev

theorem room_in (x : Fin 6) (X : S1x1x128x512.Idx → Elt F .bf16) : iprop(landO c x X ∗ reached ER (landCell c x) 0) ⊢ (room c x : sProp 𝕄) := by
  unfold room
  iintro ⟨H, R⟩
  isplitl [H]; · iexists X; iexact H
  iexact R

theorem inside :
    iprop(scratch c ∗ (∃ r, prngReg c r) ∗ opened m c) ⊢ phi0 m c := by
  unfold scratch opened phi0 ready offer
  iintro ⟨⟨Hc, ⟨%f, Hl⟩, HC⟩, Hp, ⟨%K, #HR, Hat, ⟨t0, t1, t2⟩, Hk, ⟨#r0, #r1, #r2, #r3, #r4, #r5⟩⟩, Hcr, #Hlev⟩
  ihave Hl := (land_split c f) $$ Hl
  icases Hl with ⟨l0, l1, l2, l3, l4, l5⟩
  isplitr [Hc HC Hp]
  · iexists K
    isplitr; · iexact HR
    isplitr; · iexact Hlev
    isplitl [t0 t1 t2 l0 l1 l2 l3 l4 l5]
    · isplitl [t0 l0 l1]
      · isplitl [t0]; · iexact t0
        isplitl [l0]
        · iapply (room_in c 0 _); isplitl [l0]; · iexact l0
          iexact r0
        iapply (room_in c 1 _); isplitl [l1]; · iexact l1
        iexact r1
      isplitl [t1 l2 l3]
      · isplitl [t1]; · iexact t1
        isplitl [l2]
        · iapply (room_in c 2 _); isplitl [l2]; · iexact l2
          iexact r2
        iapply (room_in c 3 _); isplitl [l3]; · iexact l3
        iexact r3
      isplitl [t2]; · iexact t2
      isplitl [l4]
      · iapply (room_in c 4 _); isplitl [l4]; · iexact l4
        iexact r4
      iapply (room_in c 5 _); isplitl [l5]; · iexact l5
      iexact r5
    isplitl [Hcr]; · iexact Hcr
    isplitl [Hat]; · iexact Hat
    iexact Hk
  isplitl [Hc]; · iexact Hc
  isplitl [HC]; · iexact HC
  iexact Hp

/-- The buffers after the region. -/
def V₂ : Valuation τ sig (Elt F) := Function.update (V1 m c) (Proc.devRef .tc main_v17) (outB (insOf m) c)

theorem V₂_out : V₂ m c (Proc.devRef .tc main_v17) = outB (insOf m) c := Function.update_self _ _ _
theorem V₂_of (r : Ref sig .tc) (h : r ≠ main_v17) : V₂ m c (Proc.devRef .tc r) = V1 m c (Proc.devRef .tc r) :=
  Function.update_of_ne (StableHlo.devRef_ne_of_ne h) _ _

/-- The result's block reads the whole array. -/
theorem read_out (G : S2x128x512.Idx → Elt F .bf16) : (win0_5.blk t0_0).view.read (Elt F) G = G := by
  funext i
  show G ((win0_5.blk t0_0).view.emb i) = G i
  congr 1
  funext a
  apply Fin.ext
  match a with
  | ⟨0, _⟩ => show 0 * 2 + 1 * (i 0).val = (i 0).val; omega
  | ⟨1, _⟩ => show 0 * 128 + 1 * (i 1).val = (i 1).val; omega
  | ⟨2, _⟩ => show 0 * 512 + 1 * (i 2).val = (i 2).val; omega

theorem arr_first (w : Fin cfg0.W) : (dat m c).arrAt w 0 = V1 m c (Proc.devRef .tc (Pipeline.arrRef spec0 w)) := rfl
theorem arr_out : (dat m c).arrAt (5 : Fin 6) cfg0.N = outB (insOf m) c :=
  (dat m c).arrAt_eq_of_cover (5 : Fin 6) (outB (insOf m) c)
    (fun t _ => by rw [fin_N0 t]; exact (read_out _).symm)
    (fun i => ⟨t0_0, by decide, by
      have h : (win0_5.blk t0_0).view.emb i = i := by
        funext a
        apply Fin.ext
        match a with
        | ⟨0, _⟩ => show 0 * 2 + 1 * (i 0).val = (i 0).val; omega
        | ⟨1, _⟩ => show 0 * 128 + 1 * (i 1).val = (i 1).val; omega
        | ⟨2, _⟩ => show 0 * 512 + 1 * (i 2).val = (i 2).val; omega
      have h' := (win0_5.blk t0_0).view.emb_mem_set i
      rwa [h] at h'⟩)
theorem arr_last (w : Fin cfg0.W) : (dat m c).arrAt w cfg0.N = V₂ m c (Proc.devRef .tc (Pipeline.arrRef spec0 w)) := by
  match w with
  | ⟨0, _⟩ => exact ((dat m c).arrAt_in (0 : Fin 6) rfl _).trans (V₂_of m c main_arg0 (by decide)).symm
  | ⟨1, _⟩ => exact ((dat m c).arrAt_in (1 : Fin 6) rfl _).trans (V₂_of m c main_arg1 (by decide)).symm
  | ⟨2, _⟩ => exact ((dat m c).arrAt_in (2 : Fin 6) rfl _).trans (V₂_of m c main_v15 (by decide)).symm
  | ⟨3, _⟩ => exact ((dat m c).arrAt_in (3 : Fin 6) rfl _).trans (V₂_of m c main_v16 (by decide)).symm
  | ⟨4, _⟩ => exact ((dat m c).arrAt_in (4 : Fin 6) rfl _).trans (V₂_of m c main_arg4 (by decide)).symm
  | ⟨5, _⟩ => exact (arr_out m c).trans (V₂_out m c).symm

theorem held_none (W : Valuation τ sig (Elt F)) : (StableHlo.held (c : Thread nD τ) ∅ W : sProp 𝕄) = BI.emp := by
  unfold StableHlo.held; exact BI.bigSep_empty

/-- The unscoped buffers the windows do not name. -/
abbrev others : Finset (DevRef τ sig) := Pipeline.ucRefs τ sig \ Pipeline.arrRefs (τ := τ) spec0

theorem others_same : ∀ b ∈ others \ ∅, V₂ m c b = V1 m c b := fun b hb => by
  refine Function.update_of_ne (fun h => ?_) _ _
  subst h
  exact (Finset.mem_sdiff.mp (Finset.mem_sdiff.mp hb).1).2 (by decide)

theorem dues_cut (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · exact O₀_cut c h
  · exact absurd h (Nat.lt_irrefl 0)

theorem region_in : iprop(Pipeline.scopedRest (Pipeline.pin (pcfgs (F := F)) adm 0).spec c ∗ (∃ r, prngReg c r)
    ∗ StableHlo.held (c : Thread nD τ) ∅ (V1 m c) ∗ opened m c) ⊢ (pdats m 0 c).Φ 0 := by
  rw [show (pdats m 0 c).Φ 0 = phi0 m c from phi_first m c,
    show (Pipeline.scopedRest (Pipeline.pin (pcfgs (F := F)) adm 0).spec c : sProp 𝕄) = scratch c from scratch_eq c]
  iintro ⟨Hs, Hp, -, Ho⟩
  iapply (inside m c)
  isplitl [Hs]; · iexact Hs
  isplitl [Hp]; · iexact Hp
  iexact Ho
theorem region_out : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c : Thread nD τ) ∅ (V₂ m c) ∗ Pipeline.ownSems0 osem c ∗ semVal (barCell c) 0) := by
  rw [show (pdats m 0 c).Φ (Fin.last (Pipeline.pin (pcfgs (F := F)) adm 0).N) = phi1 c from phi_last m c,
    show (Pipeline.scopedRest (Pipeline.pin (pcfgs (F := F)) adm 0).spec c : sProp 𝕄) = scratch c from scratch_eq c, held_none]
  unfold phi1
  iintro ⟨Hb, Ho, Hs, Hp⟩
  isplitl [Hs]; · iexact Hs
  isplitl [Hp]; · iexact Hp
  isplitr; · iempintro
  isplitl [Ho]; · iexact Ho
  iexact Hb

end Segment

section Region
variable (m : (ℓ : Loc nD τ sig) → Buf (Elt F) ℓ)

theorem stage_low : ∀ (w : Fin 6) (s : Fin (cfg0.win w).nbuf), ((cfg0.win w).sem s).val < 12 := by decide

set_option backward.isDefEq.respectTransparency.types false in
/-- The region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body_ok m c).loose)
    (fun _ => 0) O₀ (fun c => (owed_first m c).trans (zero_add _).symm) (owed_last m) (fun _ => rfl) (share_full m)
    (V1 m) (V₂ m) (others_same m)
    (carried m) (fun c => semVal (barCell c) 0) (opened m) (fun c => semVal (barCell c) 0) (enter m) (region_in m) (region_out m)
    (fun c => by iintro H; imodintro; iexact H)
    (fun _ => 0)
    ⟨fun c w s => by rw [L_tc]; exact Finset.mem_singleton_self _,
      fun c w s => (lv_low c _ (stage_low w s)).le, fun c t g i h => dues_cut m c t g i h⟩
    (fun _ => iprop(emp))
    (arr_first m) (arr_last m)

end Region

end Cert.Exchange

end
-- ==== Proof.Run.lean ====
/-
The launch: the exchange's cells funded, the tokens and the credit dealt, and the run of the whole program.
-/
module

public import proofs.«01_k».proof.Proof.Talk
public import Idealize.ShloMosaic.Lib.Quiescent
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Funding -/

theorem disjoint_cells : Disjoint (barCells : Finset (GSem nD τ sig)) scCells := by
  rw [Finset.disjoint_left]
  intro g h h'
  obtain ⟨c, -, rfl⟩ := Finset.mem_map.mp h
  obtain ⟨p, -, e⟩ := Finset.mem_map.mp h'
  exact osem_ne_bar p.2 (congrArg Prod.snd e)

/-- A duty of a device's cells: one of the barrier's three, or the only one of a transfer's cell. -/
abbrev dutyAt : Fin 3 ⊕ Fin 12 → SemLoc sig × Fin 3 := fun | .inl r => (.reg barS, r) | .inr k => (osem k, 0)
theorem dutyAt_inj : Function.Injective dutyAt := by decide
def dutyEmb : Dev nD × (Fin 3 ⊕ Fin 12) ↪ GSem nD τ sig × ℕ × Fin 3 :=
  ⟨fun p => (((p.1 : Thread nD τ), (dutyAt p.2).1), 0, (dutyAt p.2).2), fun p q h =>
    Prod.ext (congrArg (fun t : GSem nD τ sig × ℕ × Fin 3 => t.1.1.1) h)
      (dutyAt_inj (Prod.ext (congrArg (fun t : GSem nD τ sig × ℕ × Fin 3 => t.1.2) h) (congrArg (fun t : GSem nD τ sig × ℕ × Fin 3 => t.2.2) h)))⟩
def allToks : Finset (GSem nD τ sig × ℕ × Fin 3) := Finset.univ.map dutyEmb

/-- Twelve conjuncts by semaphore are six pairs by slot. -/
theorem by_slot (Φ : SemLoc sig → sProp (MT nD τ sig Unit (Elt F) ℕ UU ℕ)) :
    bigSep Finset.univ (fun k : Fin 12 => Φ (osem k)) ⊢ six (fun x => iprop(Φ (.dma (sendS x)) ∗ Φ (.dma (landS x)))) := by
  rw [bigSep_univ_eq_bigSepL [0, 6, 3, 9, 1, 7, 4, 10, 2, 8, 5, 11] (by decide) (by decide)]
  show iprop(Φ (.dma (sendS 0)) ∗ Φ (.dma (landS 0)) ∗ Φ (.dma (sendS 1)) ∗ Φ (.dma (landS 1)) ∗ Φ (.dma (sendS 2)) ∗ Φ (.dma (landS 2)) ∗ Φ (.dma (sendS 3)) ∗ Φ (.dma (landS 3)) ∗ Φ (.dma (sendS 4)) ∗ Φ (.dma (landS 4)) ∗ Φ (.dma (sendS 5)) ∗ Φ (.dma (landS 5))) ⊢ six (fun x => iprop(Φ (.dma (sendS x)) ∗ Φ (.dma (landS x))))
  iintro ⟨a0, b0, a1, b1, a2, b2, a3, b3, a4, b4, a5, b5⟩
  isplitl [a0 b0]
  · isplitl [a0]; · iexact a0
    iexact b0
  isplitl [a1 b1]
  · isplitl [a1]; · iexact a1
    iexact b1
  isplitl [a2 b2]
  · isplitl [a2]; · iexact a2
    iexact b2
  isplitl [a3 b3]
  · isplitl [a3]; · iexact a3
    iexact b3
  isplitl [a4 b4]
  · isplitl [a4]; · iexact a4
    iexact b4
  isplitl [a5]; · iexact a5
  iexact b5

theorem toks_out :
    (bigSep allToks fun t => (dutyTok ER t.1 t.2.1 t.2.2 : sProp 𝕄))
      ⊢ bigSep Finset.univ fun c : Dev nD => iprop((dutyTok ER (barCell c) 0 0 ∗ dutyTok ER (barCell c) 0 1 ∗ dutyTok ER (barCell c) 0 2)
          ∗ six (fun x => iprop(dutyTok ER (sendCell c x) 0 0 ∗ dutyTok ER (landCell c x) 0 0))) := by
  unfold allToks
  rw [bigSep_map, bigSep_univ_prod]
  refine bigSep_mono fun c _ => ?_
  rw [bigSep_univ_sum]
  rw [bigSep_univ_eq_bigSepL [0, 1, 2] (by decide) (by decide), bigSepL_cons_cons, bigSepL_cons_cons, bigSepL_singleton]
  show iprop((dutyTok ER (barCell c) 0 0 ∗ dutyTok ER (barCell c) 0 1 ∗ dutyTok ER (barCell c) 0 2)
      ∗ bigSep Finset.univ fun k : Fin 12 => dutyTok ER ((c : Thread nD τ), osem k) 0 0)
    ⊢ iprop((dutyTok ER (barCell c) 0 0 ∗ dutyTok ER (barCell c) 0 1 ∗ dutyTok ER (barCell c) 0 2)
      ∗ six (fun x => iprop(dutyTok ER (sendCell c x) 0 0 ∗ dutyTok ER (landCell c x) 0 0)))
  iintro ⟨H, H'⟩
  isplitl [H]; · iexact H
  iapply (by_slot (F := F) (fun s => dutyTok ER ((c : Thread nD τ), s) 0 0)) $$ H'

theorem six_over (P : Dev nD → Fin 6 → sProp (MT nD τ sig Unit (Elt F) ℕ UU ℕ)) :
    (bigSep Finset.univ fun c => six (P c)) = six (fun x => bigSep Finset.univ fun c => P c x) := by
  unfold six
  rw [bigSep_sep', bigSep_sep', bigSep_sep', bigSep_sep', bigSep_sep']

theorem turned (x : Fin 6) : (bigSep Finset.univ fun c : Dev nD => iprop(dutyTok ER (sendCell c x) 0 0 ∗ dutyTok ER (landCell c x) 0 0))
    = (bigSep Finset.univ fun c : Dev nD => (slotToks c x : sProp 𝕄)) := by
  rw [bigSep_sep', bigSep_sep', bigSep_univ_equiv (around (stp x)) (fun c : Dev nD => (dutyTok ER (landCell c x) 0 0 : sProp 𝕄))]
  rfl

/-- Each token to the device that pays the duty. -/
theorem toks_around :
    (bigSep Finset.univ fun c : Dev nD => iprop((dutyTok ER (barCell c) 0 0 ∗ dutyTok ER (barCell c) 0 1 ∗ dutyTok ER (barCell c) 0 2)
          ∗ six (fun x => iprop(dutyTok ER (sendCell c x) 0 0 ∗ dutyTok ER (landCell c x) 0 0))))
      ⊢ (bigSep Finset.univ fun c : Dev nD => iprop(barToks c ∗ six (slotToks c)) : sProp 𝕄) := by
  rw [bigSep_sep' Finset.univ _ (fun c : Dev nD => six (fun x => iprop(dutyTok ER (sendCell c x) 0 0 ∗ dutyTok ER (landCell c x) 0 0))),
    bigSep_sep' Finset.univ _ (fun c : Dev nD => six (slotToks c)), six_over, six_over, show (fun x => bigSep Finset.univ fun c : Dev nD => iprop(dutyTok ER (sendCell c x) 0 0 ∗ dutyTok ER (landCell c x) 0 0))
    = (fun x => bigSep Finset.univ fun c : Dev nD => (slotToks c x : sProp 𝕄)) from funext fun x => turned x]
  refine sep_mono ?_ .rfl
  rw [bigSep_sep', bigSep_sep', bigSep_sep', bigSep_sep', bigSep_univ_equiv (around 0) (fun c : Dev nD => (dutyTok ER (barCell c) 0 0 : sProp 𝕄)),
    bigSep_univ_equiv (around 1) (fun c : Dev nD => (dutyTok ER (barCell c) 0 1 : sProp 𝕄)),
    bigSep_univ_equiv (around 2) (fun c : Dev nD => (dutyTok ER (barCell c) 0 2 : sProp 𝕄))]
  exact .rfl

/-! ## The credit -/

theorem one_bar (d c : Dev nD) (r : Fin 3) : (tallyAt (barCell (pr r d)) () 1 : CellTallies nD τ sig Unit) (barCell c) () = if d = pr r c then 1 else 0 := by
  rw [tallyAt_apply]
  by_cases h : d = pr r c
  · subst h; rw [pr_pr, if_pos ⟨rfl, rfl⟩, if_pos rfl]
  · rw [if_neg (fun h' => h (by rw [← pr_pr r d]; exact (congrArg (pr r) (congrArg (fun g : GSem nD τ sig => g.1.1) h'.1)).symm)), if_neg h]

theorem ow_bar (d c : Dev nD) : ow d 0 (barCell c) () = 0 := by
  by_contra h
  obtain ⟨x, -, e⟩ := ow_pos (Nat.pos_of_ne_zero h)
  exact absurd (congrArg Prod.snd e) (by simp)

theorem owed_bar (d c : Dev nD) :
    O₀ d (barCell c) () = (if d = pr 2 c then 1 else 0) + (if d = pr 1 c then 1 else 0) + (if d = pr 0 c then 1 else 0) := by
  unfold O₀ O₁ O₂
  rw [Pi.add_apply, Finsupp.add_apply, Pi.add_apply, Finsupp.add_apply, Pi.add_apply, Finsupp.add_apply, ow_bar, one_bar, one_bar, one_bar, Nat.zero_add]

theorem no_bar (d c : Dev nD) (r : Fin 3) (x : Fin 6) : (tallyAt (barCell d) () 1 : CellTallies nD τ sig Unit) (landCell c x) () = 0 := by
  rw [tallyAt_apply, if_neg fun h => absurd (congrArg Prod.snd h.1) (by simp)]

theorem owed_land (d c : Dev nD) (x : Fin 6) : O₀ d (landCell c x) () = if d = pr (stp x) c then N else 0 := by
  unfold O₀ O₁ O₂
  rw [Pi.add_apply, Finsupp.add_apply, Pi.add_apply, Finsupp.add_apply, Pi.add_apply, Finsupp.add_apply, no_bar _ _ 0, Nat.add_zero, no_bar _ _ 0, Nat.add_zero, no_bar _ _ 0, Nat.add_zero,
    ow_apply, Finset.sum_eq_single x]
  · rw [tallyAt_apply]
    by_cases h : d = pr (stp x) c
    · subst h; rw [pr_pr, if_pos ⟨rfl, rfl⟩, if_pos rfl]
    · rw [if_neg (fun h' => h (by rw [← pr_pr (stp x) d]; exact (congrArg (pr (stp x)) (congrArg (fun g : GSem nD τ sig => g.1.1) h'.1)).symm)), if_neg h]
  · intro y _ hy
    rw [tallyAt_apply, if_neg fun h => hy (land_inj (SemLoc.dma.inj (congrArg Prod.snd h.1))).symm]
  · intro h; exact absurd (Finset.mem_filter.mpr ⟨Finset.mem_univ x, Nat.zero_le _⟩) h

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib, Finset.sum_add_distrib,
    Finset.sum_ite_eq' Finset.univ (pr 2 c) fun _ => 1, Finset.sum_ite_eq' Finset.univ (pr 1 c) fun _ => 1, Finset.sum_ite_eq' Finset.univ (pr 0 c) fun _ => 1,
    if_pos (Finset.mem_univ _), if_pos (Finset.mem_univ _), if_pos (Finset.mem_univ _)]

theorem launch_land (c : Dev nD) (x : Fin 6) :
    tallyOn (landCell c x) (launchCredit (Pipeline.owing O₀) 0 (landCell c x)) = (tallyAt (landCell c x) () N : CellTallies nD τ sig Unit) := by
  unfold tallyAt
  refine congrArg _ (Finsupp.ext fun u => ?_)
  cases u
  rw [Pipeline.launchCredit_owing, Finsupp.single_eq_same, Finset.sum_congr rfl fun d _ => owed_land d c x, Finset.sum_ite_eq' Finset.univ (pr (stp x) c) fun _ => N,
    if_pos (Finset.mem_univ _)]

def landEmb : Fin 6 ↪ SemLoc sig := ⟨fun x => .dma (landS x), fun _ _ h => land_inj (SemLoc.dma.inj h)⟩

theorem creds (c : Dev nD) : (Pipeline.launchCred O₀ c : sProp 𝕄) ⊢ credits c := by
  unfold Pipeline.launchCred credits
  rw [bigSep_univ_at _ (SemLoc.reg barS), launch_bar]
  refine sep_mono_right ((bigSep_subset (t := Finset.univ.map landEmb) fun s h => ?_).trans ?_)
  · obtain ⟨x, -, rfl⟩ := Finset.mem_map.mp h
    exact Finset.mem_erase.mpr ⟨by simp [landEmb], Finset.mem_univ _⟩
  · rw [bigSep_map, ← six_sep]
    exact bigSep_mono fun x _ => ent_eq (congrArg cred (launch_land c x))

/-! ## The launch -/

section Launch
variable (m : (ℓ : Loc nD τ sig) → Buf (Elt F) ℓ) (ρ : Dev nD → PrngReg)

/-- The launch element: the pipeline's and the exchange's. -/
def u₀ : UU :=
  (initOf (Pipeline.cells cfgs cellOf_inj) (Pipeline.launchToks cfgs cellOf_inj), launchOf barCells scCells allToks)

/-- The exchange's launch element, kept by device 0. -/
def G (c : Dev nD) : sProp 𝕄 := if c = 0 then BI.own (ER (launchOf barCells scCells allToks)) else iprop(emp)
theorem G_all : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

theorem plain_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What rides beside the buffers up to the region. -/
abbrev rest (c : Dev nD) : sProp 𝕄 := iprop(carried m c ∗ (∃ r, prngReg c r) ∗ ∃ W, owes (c : Thread nD τ) (O₀ c) W)

/-- What of a device's start is not the exchange's. -/
def plain (c : Dev nD) : sProp 𝕄 :=
  iprop(StableHlo.held (c : Thread nD τ) (Pipeline.ucRefs τ sig) (V0 m c) ∗ credits c ∗ (∃ r, prngReg c r) ∗ owes (c : Thread nD τ) (O₀ c) ∅)

abbrev T₀ (c : Dev nD) : sProp 𝕄 := iprop(StableHlo.held (c : Thread nD τ) (Pipeline.ucRefs τ sig) (V0 m c) ∗ rest m c)

theorem at_start (K : GSem nD τ sig → ℕ) (c : Dev nD) : iprop(records (blocks (insOf m)) K ∗ (linear c ∗ plain m c)) ⊢ T₀ m c := by
  unfold plain T₀ rest carried
  iintro ⟨#HR, Hl, Hh, Hc, Hp, HO⟩
  isplitl [Hh]; · iexact Hh
  isplitl [Hl Hc]
  · isplitl [Hl]
    · iexists K
      isplitr; · iexact HR
      iexact Hl
    iexact Hc
  isplitl [Hp]; · iexact Hp
  iexists ∅; iexact HO

theorem per_device (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), plain_sems]
  unfold plain
  iintro ⟨Hh, Hs, HO, Hc, Hp, HG⟩
  ihave Hc := (creds c) $$ Hc
  isplitl [Hh HO Hc Hp]
  · isplitl [Hh]; · iexact Hh
    isplitl [Hc]; · iexact Hc
    isplitl [Hp]; · iexists (ρ c); iexact Hp
    iexact HO
  isplitl [Hs]; · iexact Hs
  iexact HG

theorem opens_out : (bigSep scCells fun g => (openTok ER g : sProp 𝕄))
    ⊢ bigSep Finset.univ fun c : Dev nD => six (fun x => iprop(openTok ER (sendCell c x) ∗ openTok ER (landCell c x))) := by
  rw [bigSep_map, bigSep_univ_prod]
  exact bigSep_mono fun c _ => by_slot (F := F) (fun s => openTok ER ((c : Thread nD τ), s))

theorem dealt : iprop((bigSep Finset.univ fun c : Dev nD => atPos ER (barCell c) 0 ∅ 0)
      ∗ (bigSep Finset.univ fun c : Dev nD => six (fun x => iprop(openTok ER (sendCell c x) ∗ openTok ER (landCell c x))))
      ∗ (bigSep Finset.univ fun c : Dev nD => iprop(barToks c ∗ six (slotToks c)))
      ∗ bigSep Finset.univ fun c : Dev nD => plain m c)
    ⊢ (bigSep Finset.univ fun c : Dev nD => iprop(linear c ∗ plain m c) : sProp 𝕄) := by
  rw [← bigSep_sep', ← bigSep_sep', ← bigSep_sep']
  refine bigSep_mono fun c _ => ?_
  unfold linear
  show iprop(atPos ER (barCell c) 0 ∅ 0 ∗ six (fun x => iprop(openTok ER (sendCell c x) ∗ openTok ER (landCell c x))) ∗ (barToks c ∗ six (slotToks c)) ∗ plain m c)
    ⊢ iprop((atPos ER (barCell c) 0 ∅ 0 ∗ six (fun x => iprop(openTok ER (sendCell c x) ∗ openTok ER (landCell c x))) ∗ barToks c ∗ six (slotToks c)) ∗ plain m c)
  iintro ⟨A, O, T, P⟩
  isplitr [P]
  · isplitl [A]; · iexact A
    isplitl [O]; · iexact O
    iexact T
  iexact P

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => plain m c) ∗ (bigSep Finset.univ fun c : Dev nD => semVal (barCell c) 0) ∗ bigSep Finset.univ fun c : Dev nD => G c) : sProp 𝕄) from
      (bigSep_mono fun c _ => per_device m ρ c).trans (by rw [bigSep_sep', bigSep_sep']; exact BI.Entails.refl _)) $$ H
  icases H with ⟨HB, Hv, HG⟩
  ihave HG := (ent_eq (G_all (F := F))) $$ HG
  ihave Hv := (show (bigSep Finset.univ fun c : Dev nD => (semVal (barCell c) 0 : sProp 𝕄)) ⊢ bigSep barCells fun g => semVal g 0 from
    ent_eq (bigSep_map (s := Finset.univ) barEmb (Φ := fun g : GSem nD τ sig => (semVal g 0 : sProp 𝕄))).symm) $$ Hv
  imod (Rounds.fund_launch ER (rd (blocks (insOf m))) disjoint_cells (fun g _ h => h) allToks) $$ [Hv HG] with ⟨%K, -, #Hinv, #Hr, Hat, Hopen, Htok⟩
  · isplitl [Hv]; · iexact Hv
    iexact HG
  ihave Hat := (show (bigSep barCells fun g => (atPos ER g 0 ∅ 0 : sProp 𝕄)) ⊢ bigSep Finset.univ fun c : Dev nD => atPos ER (barCell c) 0 ∅ 0 from
    ent_eq (bigSep_map (s := Finset.univ) barEmb (Φ := fun g : GSem nD τ sig => (atPos ER g 0 ∅ 0 : sProp 𝕄)))) $$ Hat
  ihave Hopen := (opens_out (F := F)) $$ Hopen
  ihave Htok := (toks_out (F := F)) $$ Htok
  ihave Htok := (toks_around (F := F)) $$ Htok
  imodintro
  iapply (bigSep_with_persistent (R := records (blocks (insOf m)) K) (Φ := fun c => iprop(linear c ∗ plain m c)) fun c _ => at_start m K c)
  isplitr
  · unfold records
    isplitr; · iexact Hinv
    iexact Hr
  iapply (dealt m)
  isplitl [Hat]; · iexact Hat
  isplitl [Hopen]; · iexact Hopen
  isplitl [Htok]; · iexact Htok
  iexact HB

/-! ## The region's ends -/

theorem to_region (c : Dev nD) : iprop(StableHlo.held (c : Thread nD τ) (Pipeline.ucRefs τ sig) (V1 m c) ∗ rest m c) ⊢ (reg0 m).pre c := by
  rw [show (StableHlo.held (c : Thread nD τ) (Pipeline.ucRefs τ sig) (V1 m c) : sProp 𝕄) = _ from
    StableHlo.held_sub_split (c : Thread nD τ) (Pipeline.arrRefs_sub_ucRefs spec0 launch0.win.arr_unscoped) (V1 m c)]
  show _ ⊢ iprop(StableHlo.held (c : Thread nD τ) (Pipeline.arrRefs (τ := τ) spec0) (V1 m c) ∗ (∃ r, prngReg c r)
    ∗ (StableHlo.held (c : Thread nD τ) others (V1 m c) ∗ emp) ∗ carried m c ∗ ∃ W, owes (c : Thread nD τ) (0 + O₀ c) W)
  rw [zero_add]
  unfold rest
  iintro ⟨⟨Ha, Ho⟩, Hc, Hp, HO⟩
  isplitl [Ha]; · iexact Ha
  isplitl [Hp]; · iexact Hp
  isplitl [Ho]
  · isplitl [Ho]; · iexact Ho
    iempintro
  isplitl [Hc]; · iexact Hc
  iexact HO

theorem from_region (c : Dev nD) : (reg0 m).post c
    ⊢ iprop((StableHlo.held (c : Thread nD τ) (Pipeline.ucRefs τ sig) (V₂ m c) ∗ semVal (barCell c) 0)
      ∗ ∃ W, owes (c : Thread nD τ) (0 : CellTallies nD τ sig Unit) W) := by
  rw [show (StableHlo.held (c : Thread nD τ) (Pipeline.ucRefs τ sig) (V₂ m c) : sProp 𝕄) = _ from
    StableHlo.held_sub_split (c : Thread nD τ) (Pipeline.arrRefs_sub_ucRefs spec0 launch0.win.arr_unscoped) (V₂ m c)]
  show iprop(StableHlo.held (c : Thread nD τ) (Pipeline.arrRefs (τ := τ) spec0) (V₂ m c) ∗ (∃ r, prngReg c r)
    ∗ (StableHlo.held (c : Thread nD τ) others (V₂ m c) ∗ emp) ∗ semVal (barCell c) 0 ∗ ∃ W, owes (c : Thread nD τ) (0 : CellTallies nD τ sig Unit) W) ⊢ _
  iintro ⟨Ha, -, ⟨Ho, -⟩, Hb, HO⟩
  isplitr [HO]
  · isplitr [Hb]
    · isplitl [Ha]; · iexact Ha
      iexact Ho
    iexact Hb
  iexact HO

/-! ## The run -/

/-- What a device's arrays hold at the end. -/
abbrev Ends (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v17) = outB (insOf m) c

theorem kept (c : Dev nD) (r : Ref sig .tc) (h : r ≠ main_v17) (h' : r ∉ hostOps0_W) : V₂ m c (Proc.devRef .tc r) = m ((c.tc : Thread nD τ).loc r) :=
  (V₂_of m c r h).trans ((V1_of m c r h').trans rfl)

set_option backward.isDefEq.respectTransparency.types false in
/-- The run: every weakly fair execution ends, the arguments unchanged, each device's result the closed form, every counter at zero. -/
theorem run_main : θ_run defs (onTc (τ := τ) (main (F := F))) ⟨m, fun _ => 0, ρ⟩
    (fun r => (∀ c : Dev nD, Ends m r.2 c) ∧ r.2.sem = fun _ => 0) := by
  refine Pipeline.θ_run_regions_kit_dev_sems (pcfgs (F := F)) adm (pdats m) () cellOf_inj EP defs₀ 𝒱₀ L lv m ρ main
    (Gen.segs m 𝒱₀ L lv (fun _ => rest m) () (pdats m) (reg0 m))
    (fun c Q => by
      rewrite [main_chain c, Pipeline.Seg.run_eq_chain,
        show (Gen.segs m 𝒱₀ L lv (fun _ => rest m) () (pdats m) (reg0 m) c).map Pipeline.Seg.prog = [
          StableHlo.seq (hostOps0 c), Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    O₀ L_of_ne G u₀ ?_
    (T₀ := T₀ m)
    (Tₙ := fun c => iprop(StableHlo.held (c : Thread nD τ) (Pipeline.ucRefs τ sig) (V₂ m c) ∗ semVal (barCell c) 0))
    (hch := fun c => ⟨.rfl, to_region m c, from_region m c⟩)
    (hinit := deal m ρ)
    (QY := fun c s => Ends m s c ∧ ∀ sm : SemLoc sig, sm.isScoped .tc = false → s.sem ((c.tc : Thread nD τ), sm) = 0)
    (hfin := fun c s' => ?_)
    (hQ := fun s h hs => ⟨fun c => (h c).1, sem_eq_zero hs fun c => (h c).2⟩)
  · unfold u₀
    iintro Hu
    ihave H := (ownU_pair _ _) $$ Hu
    icases H with ⟨HP, HX⟩
    imodintro
    isplitl [HP]; · iexact HP
    rw [G_all]; iexact HX
  · unfold StableHlo.held
    iintro ⟨⟨Hh, Hb⟩, HSI⟩
    ihave Hr := (pointsTo_read_all (Pipeline.ucRefs τ sig) (fun b => ((c : Thread nD τ).1, b)) (V₂ m c) s') $$ [Hh HSI]
    · isplitl [Hh] <;> iassumption
    icases Hr with ⟨%h, HSI⟩
    imod (Pipeline.unscopedSems0_read (X := semVal (barCell c) 0) (by rw [plain_sems]; iintro H; imodintro; iexact H) s') $$ [Hb HSI] with ⟨%hb, HSI⟩
    · isplitl [Hb] <;> iassumption
    imodintro
    isplitr
    · ipureintro
      have hm (r : Ref sig .tc) (hr : Proc.devRef (τ := τ) .tc r ∈ Pipeline.ucRefs τ sig) := h (Proc.devRef .tc r) hr
      exact ⟨⟨(hm main_arg0 (Finset.mem_filter.mpr ⟨StableHlo.devRef_mem_tcRefs _, by decide⟩)).trans (kept m c main_arg0 (by decide) (by decide)),
        (hm main_arg1 (Finset.mem_filter.mpr ⟨StableHlo.devRef_mem_tcRefs _, by decide⟩)).trans (kept m c main_arg1 (by decide) (by decide)),
        (hm main_arg2 (Finset.mem_filter.mpr ⟨StableHlo.devRef_mem_tcRefs _, by decide⟩)).trans (kept m c main_arg2 (by decide) (by decide)),
        (hm main_arg3 (Finset.mem_filter.mpr ⟨StableHlo.devRef_mem_tcRefs _, by decide⟩)).trans (kept m c main_arg3 (by decide) (by decide)),
        (hm main_arg4 (Finset.mem_filter.mpr ⟨StableHlo.devRef_mem_tcRefs _, by decide⟩)).trans (kept m c main_arg4 (by decide) (by decide)),
        (hm main_v17 (Finset.mem_filter.mpr ⟨StableHlo.devRef_mem_tcRefs _, by decide⟩)).trans (V₂_out m c)⟩, hb⟩
    · iexact HSI

end Launch

end Cert.Exchange

end
-- ==== Proof.Frames.lean ====
/-
The frames: the kernel's run with the values dropped, of the program as printed and of the ideal one.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Exchange

open Idealize.ShloMosaic Idealize.SL.Sem

/-- A named constant on bits is its literal. -/
local instance literal : Named Bits := ⟨fun _ _ _ b => Scalar.ofBits _ b⟩

theorem same_bodies : Cert.Kernel.defs₀ (F := Bits) = Cert.KernelIdeal.defs₀ (F := Bits) := by
  refine congrArg (Defs.onTc (nD := Cert.KernelIdeal.nD) (τ := Cert.KernelIdeal.τ) (sig := Cert.KernelIdeal.sig) (Λ := Cert.KernelIdeal.Λ₀)) ?_
  funext l a
  match l, a with
  | 0, (t, s) => rfl

theorem same_table : Cert.Kernel.defs (F := Bits) = Cert.KernelIdeal.defs (F := Bits) :=
  congrArg (Pipeline.defs (Cert.KernelIdeal.pcfgs (F := Bits))) same_bodies

theorem frame_kernel : Cert.quiescent_Kernel (hKernel := Cert.Kernel.Gen.facts) := fun m ρ _ => by
  rw [same_table]
  exact (θ_run (Cert.KernelIdeal.defs (F := Bits)) (onTc (τ := Cert.KernelIdeal.τ) (Cert.KernelIdeal.main (F := Bits))) ⟨m, fun _ => 0, ρ⟩).mono
    (fun _ h => ⟨fun c => ⟨(h.1 c).1, (h.1 c).2.1, (h.1 c).2.2.1, (h.1 c).2.2.2.1, (h.1 c).2.2.2.2.1⟩, h.2⟩) (run_main (F := Bits) m ρ)

theorem frame_ideal : Cert.quiescent_KernelIdeal (hKernelIdeal := Cert.KernelIdeal.Gen.facts) := fun m ρ _ =>
  (θ_run (Cert.KernelIdeal.defs (F := Ideal)) _ _).mono
    (fun _ h => ⟨fun c => ⟨(h.1 c).1, (h.1 c).2.1, (h.1 c).2.2.1, (h.1 c).2.2.2.1, (h.1 c).2.2.2.2.1⟩, h.2⟩) (run_main (F := Ideal) m ρ)

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems rfl r.2⟩) (Cert.ReferenceIdeal.Value.run (F := Ideal) m ρ)

theorem keeps : Cert.preserves_Kernel_KernelIdeal :=
  IdealRules.named_const.statement Cert.KernelIdeal.κ "scale" .f32 0x3E38AA3B#32 _ rfl

end Cert.Exchange

end
-- ==== Proof.Inputs.lean ====
/-
What the kernel's windows stage, in terms of the arguments: the three whole arrays, and a device's four heads of the
keys and of the values.
-/
module

public import proofs.«01_k».proof.Proof.Region
public import Idealize.ShloMosaic.Lib.Pointwise
public import Idealize.ShloMosaic.Lib.DynamicIndex

@[expose] public section

noncomputable section

namespace Cert.Exchange

open Cert.KernelIdeal Cert.KernelIdeal.Gen Idealize.ShloMosaic Idealize.ShloMosaic.TcCoe

variable {F : FTy → Type} [FloatOps F] [Named F]
variable (m : (ℓ : Loc nD τ sig) → Buf (Elt F) ℓ) (c : Dev nD)

theorem ins_x : (insOf m).x c = m ((c.tc : Thread nD τ).loc main_arg0) := by
  have e : V1 m c main_arg0 = m ((c.tc : Thread nD τ).loc main_arg0) := V1_of m c main_arg0 (by decide)
  funext i
  show V1 m c main_arg0 ((win0_0.blk t0_0).view.emb i) = _
  rw [e]
  congr 1
  funext a
  apply Fin.ext
  match a with
  | ⟨0, _⟩ => show 0 * 2 + 1 * (i 0).val = (i 0).val; omega
  | ⟨1, _⟩ => show 0 * 128 + 1 * (i 1).val = (i 1).val; omega
  | ⟨2, _⟩ => show 0 * 512 + 1 * (i 2).val = (i 2).val; omega

theorem ins_q : (insOf m).q c = m ((c.tc : Thread nD τ).loc main_arg1) := by
  have e : V1 m c main_arg1 = m ((c.tc : Thread nD τ).loc main_arg1) := V1_of m c main_arg1 (by decide)
  funext i
  show V1 m c main_arg1 ((win0_1.blk t0_0).view.emb i) = _
  rw [e]
  congr 1
  funext a
  apply Fin.ext
  match a with
  | ⟨0, _⟩ => show 0 * 512 + 1 * (i 0).val = (i 0).val; omega
  | ⟨1, _⟩ => show 0 * 256 + 1 * (i 1).val = (i 1).val; omega

theorem ins_o : (insOf m).o c = m ((c.tc : Thread nD τ).loc main_arg4) := by
  have e : V1 m c main_arg4 = m ((c.tc : Thread nD τ).loc main_arg4) := V1_of m c main_arg4 (by decide)
  funext i
  show V1 m c main_arg4 ((win0_4.blk t0_0).view.emb i) = _
  rw [e]
  congr 1
  funext a
  apply Fin.ext
  match a with
  | ⟨0, _⟩ => show 0 * 256 + 1 * (i 0).val = (i 0).val; omega
  | ⟨1, _⟩ => show 0 * 512 + 1 * (i 1).val = (i 1).val; omega

theorem win_k (b : Fin 2) (j : Fin 128) (t : Fin 256) : (insOf m).k c (ix3 b j t) = V1 m c main_v15 (ix3 b j t) := by
  show V1 m c main_v15 ((win0_2.blk t0_0).view.emb (ix3 b j t)) = _
  congr 1
  funext a
  apply Fin.ext
  match a with
  | ⟨0, _⟩ => show 0 * 2 + 1 * b.val = b.val; omega
  | ⟨1, _⟩ => show 0 * 128 + 1 * j.val = j.val; omega
  | ⟨2, _⟩ => show 0 * 256 + 1 * t.val = t.val; omega

theorem win_v (b : Fin 2) (j : Fin 128) (t : Fin 256) : (insOf m).v c (ix3 b j t) = V1 m c main_v16 (ix3 b j t) := by
  show V1 m c main_v16 ((win0_3.blk t0_0).view.emb (ix3 b j t)) = _
  congr 1
  funext a
  apply Fin.ext
  match a with
  | ⟨0, _⟩ => show 0 * 2 + 1 * b.val = b.val; omega
  | ⟨1, _⟩ => show 0 * 128 + 1 * j.val = j.val; omega
  | ⟨2, _⟩ => show 0 * 256 + 1 * t.val = t.val; omega

/-- The first of a device's heads, as a signed start. -/
def firstHead : IVec S_ 32 :=
  select (cmpi .slt (muli (Host.remui (Host.divui (constantI S_ 32 (Dev.word c)) (constantI S_ 32 1#32)) (constantI S_ 32 8#32)) (constantI S_ 32 4#32)) (constantI S_ 32 0#32))
    (addi (muli (Host.remui (Host.divui (constantI S_ 32 (Dev.word c)) (constantI S_ 32 1#32)) (constantI S_ 32 8#32)) (constantI S_ 32 4#32)) (constantI S_ 32 32#32))
    (muli (Host.remui (Host.divui (constantI S_ 32 (Dev.word c)) (constantI S_ 32 1#32)) (constantI S_ 32 8#32)) (constantI S_ 32 4#32))

theorem firstHead_val (i : S_.Idx) : (firstHead c i).toInt = ((4 * c.val : ℕ) : ℤ) := by
  have h : ∀ c : Dev nD, (firstHead c ix0).toInt = ((4 * c.val : ℕ) : ℤ) := by decide +kernel
  exact h c

/-- Where a device's slice starts. -/
def startOf : Fin 4 → ℤ :=
  fun k => ((![constantI S_ 32 0#32, constantI S_ 32 0#32, firstHead c, constantI S_ 32 0#32] : Fin 4 → IVec S_ 32) k (Shape.Idx.first h_S_)).toInt

theorem host_k : V1 m c main_v15 = shapeCast S2x128x256 (Host.dynamicSlice S2x128x4x64 (m ((c.tc : Thread nD τ).loc main_arg2))
    (startOf c) sliceFits_S2x128x32x64_S2x128x4x64) shapeCasts_S2x128x4x64_S2x128x256 := by
  show StableHlo.after (hostOps0 c) (V0 m c) (Proc.devRef .tc main_v15) = _
  after_results_simp
  refine congrArg (fun s => shapeCast S2x128x256 (Host.dynamicSlice S2x128x4x64 (m ((c.tc : Thread nD τ).loc main_arg2)) s
    sliceFits_S2x128x32x64_S2x128x4x64) shapeCasts_S2x128x4x64_S2x128x256) (funext fun k => congrArg BitVec.toInt ?_)
  match k with
  | 0 =>
    dsimp only [Matrix.cons_val, cast_eq]
    after_results_simp
    rfl
  | 1 =>
    dsimp only [Matrix.cons_val, cast_eq]
    after_results_simp
    rfl
  | 2 =>
    dsimp only [Matrix.cons_val, cast_eq]
    after_results_simp
    rfl
  | 3 =>
    dsimp only [Matrix.cons_val, cast_eq]
    after_results_simp
    rfl

theorem host_v : V1 m c main_v16 = shapeCast S2x128x256 (Host.dynamicSlice S2x128x4x64 (m ((c.tc : Thread nD τ).loc main_arg3))
    (startOf c) sliceFits_S2x128x32x64_S2x128x4x64) shapeCasts_S2x128x4x64_S2x128x256 := by
  show StableHlo.after (hostOps0 c) (V0 m c) (Proc.devRef .tc main_v16) = _
  after_results_simp
  refine congrArg (fun s => shapeCast S2x128x256 (Host.dynamicSlice S2x128x4x64 (m ((c.tc : Thread nD τ).loc main_arg3)) s
    sliceFits_S2x128x32x64_S2x128x4x64) shapeCasts_S2x128x4x64_S2x128x256) (funext fun k => congrArg BitVec.toInt ?_)
  match k with
  | 0 =>
    dsimp only [Matrix.cons_val, cast_eq]
    after_results_simp
    rfl
  | 1 =>
    dsimp only [Matrix.cons_val, cast_eq]
    after_results_simp
    rfl
  | 2 =>
    dsimp only [Matrix.cons_val, cast_eq]
    after_results_simp
    rfl
  | 3 =>
    dsimp only [Matrix.cons_val, cast_eq]
    after_results_simp
    rfl

theorem startOf_val (a : Fin 4) : startOf c a = ((![0, 0, 4 * c.val, 0] : Fin 4 → ℕ) a : ℤ) := by
  match a with
  | 0 => rfl
  | 1 => rfl
  | 2 => exact firstHead_val c _
  | 3 => rfl

theorem clamp (a : Fin 4) : Host.clampedStart S2x128x32x64 S2x128x4x64 rfl (startOf c) a = (![0, 0, 4 * c.val, 0] : Fin 4 → ℕ) a := by
  refine Host.clampedStart_of_le (s := S2x128x32x64) (t := S2x128x4x64) rfl (startOf c) a _ (startOf_val c a) ?_
  have h : c.val < 8 := c.isLt
  match a with
  | 0 => show 0 + 2 ≤ 2; omega
  | 1 => show 0 + 128 ≤ 128; omega
  | 2 => show 4 * c.val + 4 ≤ 32; omega
  | 3 => show 0 + 64 ≤ 64; omega

/-- A device's four heads, flattened. -/
theorem heads_slice {α : Type} (X : S2x128x32x64.Idx → α) (b : Fin 2) (j : Fin 128) (t : Fin 256) :
    shapeCast S2x128x256 (Host.dynamicSlice S2x128x4x64 X (startOf c) sliceFits_S2x128x32x64_S2x128x4x64)
      shapeCasts_S2x128x4x64_S2x128x256 (ix3 b j t)
      = X (ix4 b j ⟨4 * c.val + t.val / 64, by have h : c.val < 8 := c.isLt; omega⟩ ⟨t.val % 64, by omega⟩) := by
  pointwise []
  refine congrArg X ?_
  have h0 := clamp c 0
  have h1 := clamp c 1
  have h2 := clamp c 2
  have h3 := clamp c 3
  congr 1 <;> apply Fin.ext
  · show Host.clampedStart S2x128x32x64 S2x128x4x64 rfl (startOf c) 0 + b.val = b.val
    rw [h0]; exact Nat.zero_add _
  · show Host.clampedStart S2x128x32x64 S2x128x4x64 rfl (startOf c) 1 + j.val = j.val
    rw [h1]; exact Nat.zero_add _
  · show Host.clampedStart S2x128x32x64 S2x128x4x64 rfl (startOf c) 2 + t.val / 64 = 4 * c.val + t.val / 64
    rw [h2]; rfl
  · show Host.clampedStart S2x128x32x64 S2x128x4x64 rfl (startOf c) 3 + t.val % 64 = t.val % 64
    rw [h3]; exact Nat.zero_add _

theorem ins_k (b : Fin 2) (j : Fin 128) (t : Fin 256) : (insOf m).k c (ix3 b j t)
    = (m ((c.tc : Thread nD τ).loc main_arg2) : S2x128x32x64.Idx → Elt F .bf16)
      (ix4 b j ⟨4 * c.val + t.val / 64, by have h : c.val < 8 := c.isLt; omega⟩ ⟨t.val % 64, by omega⟩) := by
  rw [win_k, host_k]
  exact heads_slice c _ b j t

theorem ins_v (b : Fin 2) (j : Fin 128) (t : Fin 256) : (insOf m).v c (ix3 b j t)
    = (m ((c.tc : Thread nD τ).loc main_arg3) : S2x128x32x64.Idx → Elt F .bf16)
      (ix4 b j ⟨4 * c.val + t.val / 64, by have h : c.val < 8 := c.isLt; omega⟩ ⟨t.val % 64, by omega⟩) := by
  rw [win_v, host_v]
  exact heads_slice c _ b j t

end Cert.Exchange

end
-- ==== Proof.Finite.lean ====
/-
What the precondition gives: the inputs, the query projection and the keys are reals.
-/
module

public import proofs.«01_k».proof.Defs
public import Idealize.ShloMosaic.Lib.Pointwise
public import Idealize.ShloMosaic.Lib.ReduceAll

@[expose] public section

noncomputable section

namespace Cert.Exchange

open Idealize.ShloMosaic

theorem shapes_kernel : Cert.Pre_finite_KernelIdeal.Facts where
  bcast_S_S2x128x512 := by decide
  reducesTo_S2x128x512_S_d0_1_2 := by decide
  h_S_ := by decide
  bcast_S_S512x256 := by decide
  reducesTo_S512x256_S_d0_1 := by decide
  bcast_S_S2x128x32x64 := by decide
  reducesTo_S2x128x32x64_S_d0_1_2_3 := by decide

theorem shapes_reference : Cert.Pre_finite_ReferenceIdeal.Facts where
  bcast_S_S2x128x512 := by decide
  reducesTo_S2x128x512_S_d0_1_2 := by decide
  h_S_ := by decide
  bcast_S_S512x2048 := by decide
  reducesTo_S512x2048_S_d0_1 := by decide
  bcast_S_S2x128x32x64 := by decide
  reducesTo_S2x128x32x64_S_d0_1_2_3 := by decide

theorem inf_bf16 : Ideal.ofBits FTy.bf16 0x7F80#16 = (⊤ : EReal) := by
  simp [Ideal.ofBits, Ideal.ieee]

/-- A value whose magnitude is below infinity is a real. -/
theorem real_of_abs (x : Ideal .bf16) (h : FloatOps.cmpf .olt (FloatOps.hostAbsf x) (Ideal.ofBits FTy.bf16 0x7F80#16) = 1#1) :
    ∃ r : ℝ, (x : EReal) = (r : EReal) := by
  have h' : BitVec.ofBool (decide (max (x : EReal) (-x) < Ideal.ofBits FTy.bf16 0x7F80#16)) = 1#1 := h
  rw [inf_bf16] at h'
  have hlt : max (x : EReal) (-x) < ⊤ := by
    by_contra hn
    rw [decide_eq_false hn] at h'
    exact absurd h' (by decide)
  have ht : (x : EReal) ≠ ⊤ := ((le_max_left _ _).trans_lt hlt).ne
  have hb : (x : EReal) ≠ ⊥ := by
    intro e
    have : -(x : EReal) < ⊤ := (le_max_right _ _).trans_lt hlt
    rw [e, EReal.neg_bot] at this
    exact lt_irrefl _ this
  exact ⟨_, (EReal.coe_toReal ht hb).symm⟩

theorem both_true (a b : BitVec 1) (h : IntOp.andi a b = 1#1) : a = 1#1 ∧ b = 1#1 := by
  revert a b
  decide

instance : Subsingleton Cert.Pre_finite_KernelIdeal.S_.Idx := ⟨fun a b => funext fun x => x.elim0⟩

attribute [local instance] shapes_kernel in
theorem finite_reads (x : FVec Ideal ⟨3, ![2, 128, 512]⟩ .bf16) (q : FVec Ideal ⟨2, ![512, 256]⟩ .bf16)
    (k v : FVec Ideal ⟨4, ![2, 128, 32, 64]⟩ .bf16) (o : FVec Ideal ⟨2, ![256, 512]⟩ .bf16)
    (h : Cert.Pre_finite_KernelIdeal.fn (F := Ideal) x q k v o = fun _ => 1#1) :
    (∀ i, ∃ r : ℝ, (x i : EReal) = (r : EReal)) ∧ (∀ i, ∃ r : ℝ, (q i : EReal) = (r : EReal)) ∧ (∀ i, ∃ r : ℝ, (k i : EReal) = (r : EReal)) := by
  have h0 := congrFun h ix0
  unfold Cert.Pre_finite_KernelIdeal.fn at h0
  obtain ⟨h1, hk⟩ := both_true _ _ h0
  obtain ⟨hx, hq⟩ := both_true _ _ h1
  exact ⟨fun i => real_of_abs _ (Host.reduce_andi_all _ _ _ _ _ hx i), fun i => real_of_abs _ (Host.reduce_andi_all _ _ _ _ _ hq i),
    fun i => real_of_abs _ (Host.reduce_andi_all _ _ _ _ _ hk i)⟩

end Cert.Exchange

end
-- ==== Proof.Heads.lean ====
/-
What the kernel's values are at the extended reals, element by element: the scores' weights, the attention context of a head, a device's
share of the projection, and the sum over the eight devices.
-/
module

public import proofs.«01_k».proof.Proof.Contents
public import Idealize.ShloMosaic.Lib.Pointwise

@[expose] public section

noncomputable section

namespace Cert.Exchange

open Cert.KernelIdeal Cert.KernelIdeal.Gen
open Idealize.ShloMosaic
open Idealize.ShloMosaic.TcCoe

/-- Head `h`'s 64 columns of a row block of 256. -/
def cols (h : Fin 4) (X : S128x256.Idx → EReal) : S128x64.Idx → EReal :=
  fun j => X (ix2 (j 0) ⟨64 * h.val + (j 1).val, by have h : (j 1).val < 64 := (j 1).isLt; omega⟩)

/-- The masked weights of one head. -/
def wts (m : IVec S128x128 1) (Q : S128x64.Idx → EReal) (K : S1x128x64.Idx → EReal) (i j : Fin 128) : EReal :=
  Ideal.exp2 (Scalar.select (m (ix2 i j)) (∑ d : Fin 64, Q (ix2 i d) * K (ix3 0 j d)) ⊥)

/-- One head's context: the weighted sum of the values, times the reciprocal of the weights' sum. -/
def att (m : IVec S128x128 1) (Q : S128x64.Idx → EReal) (K V : S1x128x64.Idx → EReal) (i : Fin 128) (d : Fin 64) : EReal :=
  (∑ j : Fin 128, wts m Q K i j * V (ix3 0 j d)) * Ideal.div 1 (∑ j : Fin 128, wts m Q K i j)

theorem low : Ideal.ofBits .f32 0xFF800000#32 = ⊥ := by simp [Ideal.ofBits, Ideal.ieee]
theorem pow2 (x : EReal) : FloatOps.exp2 (F := Ideal) (φ := .f32) x = Ideal.exp2 x := rfl

variable (I : Ins Ideal)

theorem heads0_at (c : Dev nD) (h : Fin 4) (i : Fin 128) (d : Fin 64) :
    heads0 I c h (ix2 i d) = att maskV (cols h (q0 I c)) (kB 0 h (I.k c)) (kB 0 h (I.v c)) i d := by
  match h with
  | 0 =>
    show k0_pay13 (F := Ideal) (k0_pay11 _ _ _ _ _ _ _ _ _) (k0_pay12 _ _ _ _ _ _ _ _) _ = _
    pointwise [k0_pay13, k0_pay11, k0_pay12, k0_pay10, att, wts, cols, low, pow2]
    rfl
  | 1 =>
    show k0_pay14 (F := Ideal) _ _ _ _ _ = _
    pointwise [k0_pay14, att, wts, cols, low, pow2]
  | 2 =>
    show k0_pay16 (F := Ideal) (k0_pay15 _ _ _) _ _ = _
    pointwise [k0_pay16, k0_pay15, att, wts, cols, low, pow2]
  | 3 =>
    show k0_pay17 (F := Ideal) _ _ _ _ _ = _
    pointwise [k0_pay17, att, wts, cols, low, pow2]

theorem heads1_at (c : Dev nD) (h : Fin 4) (i : Fin 128) (d : Fin 64) :
    heads1 I c h (ix2 i d) = att maskV (cols h (q1 I c)) (kB 1 h (I.k c)) (kB 1 h (I.v c)) i d := by
  match h with
  | 0 =>
    show k0_pay20 (F := Ideal) _ _ _ _ _ = _
    pointwise [k0_pay20, att, wts, cols, low, pow2]
  | 1 =>
    show k0_pay24 (F := Ideal) (k0_pay22 _ _ _ _) (k0_pay23 _ _ _) _ = _
    pointwise [k0_pay24, k0_pay22, k0_pay23, k0_pay21, att, wts, cols, low, pow2]
  | 2 =>
    show k0_pay25 (F := Ideal) _ _ _ _ _ = _
    pointwise [k0_pay25, att, wts, cols, low, pow2]
  | 3 =>
    show k0_pay27 (F := Ideal) (k0_pay26 _ _ _) _ _ = _
    pointwise [k0_pay27, k0_pay26, att, wts, cols, low, pow2]

theorem xB_at (b : Fin 2) (X : S2x128x512.Idx → EReal) (j : S1x128x512.Idx) : xB (F := Ideal) b X j = X (ix3 b (j 1) (j 2)) := by
  refine congrArg X (funext fun a => Fin.ext ?_)
  match a with
  | ⟨0, _⟩ => have h : (j 0).val < 1 := (j 0).isLt; show b.val + 1 * (j 0).val = b.val; omega
  | ⟨1, _⟩ => show 0 + 1 * (j 1).val = (j 1).val; omega
  | ⟨2, _⟩ => show 0 + 1 * (j 2).val = (j 2).val; omega

theorem qB_at (X : S512x256.Idx → EReal) (j : S512x256.Idx) : qB (F := Ideal) X j = X j := by
  refine congrArg X (funext fun a => Fin.ext ?_)
  match a with
  | ⟨0, _⟩ => show 0 + 1 * (j 0).val = (j 0).val; omega
  | ⟨1, _⟩ => show 0 + 1 * (j 1).val = (j 1).val; omega

theorem wB_at (X : S256x512.Idx → EReal) (j : S256x512.Idx) : wB (F := Ideal) X j = X j := by
  refine congrArg X (funext fun a => Fin.ext ?_)
  match a with
  | ⟨0, _⟩ => show 0 + 1 * (j 0).val = (j 0).val; omega
  | ⟨1, _⟩ => show 0 + 1 * (j 1).val = (j 1).val; omega

theorem cB_at (X : S128x256.Idx → EReal) (j : S128x256.Idx) : cB (F := Ideal) X j = X j := by
  refine congrArg X (funext fun a => Fin.ext ?_)
  match a with
  | ⟨0, _⟩ => show 0 + 1 * (j 0).val = (j 0).val; omega
  | ⟨1, _⟩ => show 0 + 1 * (j 1).val = (j 1).val; omega

theorem kB_at (b : Fin 2) (h : Fin 4) (X : S2x128x256.Idx → EReal) (i : Fin 128) (d : Fin 64) :
    kB (F := Ideal) b h X (ix3 0 i d) = X (ix3 b i ⟨64 * h.val + d.val, by omega⟩) := by
  refine congrArg X (funext fun a => Fin.ext ?_)
  match a with
  | ⟨0, _⟩ => show b.val + 1 * 0 = b.val; omega
  | ⟨1, _⟩ => show 0 + 1 * i.val = i.val; omega
  | ⟨2, _⟩ => show 64 * h.val + 1 * d.val = 64 * h.val + d.val; omega

theorem ctxV_at (p : Fin 4 → S128x64.Idx → EReal) (i : Fin 128) (t : Fin 256) :
    ctxV (F := Ideal) p (ix2 i t) = p ⟨t.val / 64, by omega⟩ (ix2 i ⟨t.val % 64, by omega⟩) := by
  refine congrArg (p _) (funext fun a => ?_)
  match a with
  | ⟨0, _⟩ => rfl
  | ⟨1, _⟩ => rfl

/-- The score scale: one eighth of the reciprocal of the logarithm of two. -/
def scale : EReal := ((8⁻¹ * (Real.log 2)⁻¹ : ℝ) : EReal)

theorem scale_named : Named.named (F := Ideal) κ "scale" (φ := .f32) 0x3E38AA3B#32 = scale :=
  IdealRules.named_const.ideal_named_scalar _ _ _ _ rfl

theorem q0_at (c : Dev nD) (i : Fin 128) (n : Fin 256) :
    q0 I c (ix2 i n) = (∑ k : Fin 512, I.x c (ix3 0 i k) * I.q c (ix2 k n)) * scale := by
  unfold q0
  pointwise [k0_pay9, xB_at, qB_at]
  rw [scale_named]

theorem q1_at (c : Dev nD) (i : Fin 128) (n : Fin 256) :
    q1 I c (ix2 i n) = (∑ k : Fin 512, I.x c (ix3 1 i k) * I.q c (ix2 k n)) * scale := by
  unfold q1
  pointwise [k0_pay19, xB_at, qB_at]
  rw [scale_named]

theorem S0_at (c : Dev nD) (i : Fin 128) (n : Fin 512) :
    S0 I c (ix4 0 0 i n) = ∑ t : Fin 256, ctxV (heads0 I c) (ix2 i t) * I.o c (ix2 t n) := by
  unfold S0
  pointwise [k0_pay18, cB_at, wB_at]

theorem S1_at (c : Dev nD) (i : Fin 128) (n : Fin 512) :
    S1 I c (ix4 0 0 i n) = ∑ t : Fin 256, ctxV (heads1 I c) (ix2 i t) * I.o c (ix2 t n) := by
  unfold S1
  pointwise [k0_pay28, cB_at, wB_at]

theorem outs0_at (c : Dev nD) (i : Fin 128) (n : Fin 512) :
    outs I c 0 (ix3 0 i n) = ((S0 I c (ix4 0 0 i n) + S0 I (pr 0 c) (ix4 0 0 i n)) + (S0 I (pr 1 c) (ix4 0 0 i n) + S0 I (pr 0 (pr 1 c)) (ix4 0 0 i n)))
      + ((S0 I (pr 2 c) (ix4 0 0 i n) + S0 I (pr 0 (pr 2 c)) (ix4 0 0 i n)) + (S0 I (pr 1 (pr 2 c)) (ix4 0 0 i n) + S0 I (pr 0 (pr 1 (pr 2 c))) (ix4 0 0 i n))) := by
  show k0_pay37 (F := Ideal) (k0_pay36 (S4 I c) (S4 I (pr 2 c))) _ = _
  unfold S4 S2
  pointwise [k0_pay37, k0_pay36, k0_pay34, k0_pay33, k0_pay32, k0_pay30, k0_pay29]

theorem outs1_at (c : Dev nD) (i : Fin 128) (n : Fin 512) :
    outs I c 1 (ix3 0 i n) = ((S1 I c (ix4 0 0 i n) + S1 I (pr 0 c) (ix4 0 0 i n)) + (S1 I (pr 1 c) (ix4 0 0 i n) + S1 I (pr 0 (pr 1 c)) (ix4 0 0 i n)))
      + ((S1 I (pr 2 c) (ix4 0 0 i n) + S1 I (pr 0 (pr 2 c)) (ix4 0 0 i n)) + (S1 I (pr 1 (pr 2 c)) (ix4 0 0 i n) + S1 I (pr 0 (pr 1 (pr 2 c))) (ix4 0 0 i n))) := by
  show k0_pay1 (F := Ideal) (k0_pay38 (S5 I c)) (S5 I (pr 2 c)) _ = _
  unfold S5 S3
  pointwise [k0_pay1, k0_pay38, k0_pay35, k0_pay31]

/-- The eight devices, each once, as a device's partners of partners. -/
theorem all_devices (f : Dev nD → EReal) (c : Dev nD) :
    ((f c + f (pr 0 c)) + (f (pr 1 c) + f (pr 0 (pr 1 c)))) + ((f (pr 2 c) + f (pr 0 (pr 2 c))) + (f (pr 1 (pr 2 c)) + f (pr 0 (pr 1 (pr 2 c)))))
      = ∑ e : Dev nD, f e := by
  have hp : ∀ c : Dev nD, (Finset.univ : Finset (Dev nD)).val
      = {c, pr 0 c, pr 1 c, pr 0 (pr 1 c), pr 2 c, pr 0 (pr 2 c), pr 1 (pr 2 c), pr 0 (pr 1 (pr 2 c))} := by decide
  show _ = (Finset.univ.val.map f).sum
  rw [hp c]
  simp only [Multiset.insert_eq_cons, Multiset.map_cons, Multiset.map_singleton, Multiset.sum_cons, Multiset.sum_singleton]
  ac_rfl

end Cert.Exchange

end
-- ==== Proof.Mask.lean ====
/-
The kernel's mask, element by element: a query keeps the keys of its own half.
-/
module

public import proofs.«01_k».proof.Proof.Contents
public import Idealize.ShloMosaic.Lib.Pointwise

@[expose] public section

noncomputable section

namespace Cert.Exchange

open Cert.KernelIdeal Cert.KernelIdeal.Gen Idealize.ShloMosaic

/-- The row's block of 64, as the kernel computes it. -/
theorem rowBlk_at (i j : Fin 128) : k0_pay4 k0_pay2 k0_pay3 1#32 (ix2 i j) = if i.val < 64 then 0#32 else 1#32 := by
  pointwise [k0_pay4, k0_pay2, k0_pay3]
  clear j
  revert i
  decide +kernel

/-- The column's. -/
theorem colBlk_at (i j : Fin 128) : k0_pay5 (ix2 i j) = if j.val < 64 then 0#32 else 1#32 := by
  pointwise [k0_pay5]
  clear i
  revert j
  decide +kernel

theorem maskV_at (i j : Fin 128) : maskV (ix2 i j) = if (i.val < 64 ↔ j.val < 64) then 1#1 else 0#1 := by
  have hr := rowBlk_at i j
  have hc := colBlk_at i j
  unfold maskV
  generalize k0_pay4 k0_pay2 k0_pay3 1#32 = R at hr ⊢
  pointwise [k0_pay8, k0_pay6, k0_pay7]
  rw [hr, hc, rowBlk_at]
  by_cases hi : i.val < 64 <;> by_cases hj : j.val < 64 <;>
    simp only [hi, hj, if_true, if_false, iff_self, iff_false, iff_true, not_true, not_false_iff] <;> decide +kernel

end Cert.Exchange

end
-- ==== Proof.Plain.lean ====
/-
The reference's result in stages, and each stage read element by element at the extended reals.
-/
module

public import proofs.«01_k».proof.Proof.Gen.ReferenceIdeal.Run
public import Idealize.ShloMosaic.Lib.Pointwise

@[expose] public section

noncomputable section

namespace Cert.Plain

open Cert.ReferenceIdeal Cert.ReferenceIdeal.Gen Idealize.ShloMosaic Idealize.ShloMosaic.TcCoe

/-! ## The mask -/

/-- A position's block of 64. -/
def blkR : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- The divisor four, replaced by one if it were zero. -/
def fourR : IVec S_ 32 :=
  select (cmpi .eq (id (constantI S_ 32 4#32)) (constantI S_ 32 0#32)) (constantI S_ 32 1#32) (id (constantI S_ 32 4#32))

/-- The remainder by four, of the sign of the divisor. -/
def modR {t : Shape} (h : S_.BroadcastsInDim t (![] : Fin 0 → Fin t.rank)) (x : IVec t 32) : IVec t 32 :=
  select
    (andi (cmpi .ne (cmpi .slt (Host.remsi x (broadcastInDim t ![] h fourR)) (broadcastInDim t ![] h (constantI S_ 32 0#32)))
        (broadcastInDim t ![] h (cmpi .slt fourR (constantI S_ 32 0#32))))
      (cmpi .ne (Host.remsi x (broadcastInDim t ![] h fourR)) (broadcastInDim t ![] h (constantI S_ 32 0#32))))
    (addi (Host.remsi x (broadcastInDim t ![] h fourR)) (broadcastInDim t ![] h fourR))
    (Host.remsi x (broadcastInDim t ![] h fourR))

def rowsR : IVec S128x1 32 := broadcastInDim S128x1 ![0] bcast_S128_S128x1_0 blkR
def colsR : IVec S1x128 32 := broadcastInDim S1x128 ![1] bcast_S128_S1x128_1 blkR

def maskR : IVec S128x128 1 :=
  ori
    (cmpi .eq (broadcastInDim S128x128 ![0, 1] bcast_S128x1_S128x128_0_1 rowsR)
      (broadcastInDim S128x128 ![0, 1] bcast_S1x128_S128x128_0_1 colsR))
    (cmpi .eq (broadcastInDim S128x128 ![0, 1] bcast_S1x128_S128x128_0_1 (modR bcast_S_S1x128 colsR))
      (broadcastInDim S128x128 ![0, 1] bcast_S128x1_S128x128_0_1 (modR bcast_S_S128x1 rowsR)))

/-- Rows that keep a key. -/
def keepR : IVec S128 1 := Host.reduce IntOp.ori maskR (constantI S_ 1 0#1) reducesTo_S128x128_S128_d1 h_S_

/-! ## The floats -/

variable {F : FTy → Type} [FloatOps F]

def scoresR (x : FVec F S2x128x512 .bf16) (q : FVec F S512x2048 .bf16) (k : FVec F S2x128x32x64 .bf16) : FVec F S2x32x128x128 .f32 :=
  select
    (broadcastInDim S2x32x128x128 ![0, 1, 2, 3] bcast_S1x1x128x128_S2x32x128x128_0_1_2_3
      (broadcastInDim S1x1x128x128 ![2, 3] bcast_S128x128_S1x1x128x128_2_3 maskR))
    (mulf
      (Host.dotGeneral dot_S2x128x32x64_S2x128x32x64_S2x32x128x128_3_3_1_1_02_02 none
        (shapeCast S2x128x32x64
          (Host.dotGeneral dot_S2x128x512_S512x2048_S2x128x2048_2_0_01_1_n_n none (extf .f32 x bitsLt_bf16_f32) (extf .f32 q bitsLt_bf16_f32))
          shapeCasts_S2x128x2048_S2x128x32x64)
        (extf .f32 k bitsLt_bf16_f32))
      (broadcastInDim S2x32x128x128 ![] bcast_S_S2x32x128x128 (constant S_ .f32 0x3E000000#32)))
    (broadcastInDim S2x32x128x128 ![] bcast_S_S2x32x128x128 (id (constant S_ .f32 0xFF800000#32)))

/-- The largest score of a row. -/
def topR (s : FVec F S2x32x128x128 .f32) : FVec F S2x32x128 .f32 :=
  Host.reduce FloatOps.maximumf s (constant S_ .f32 0xFF800000#32) reducesTo_S2x32x128x128_S2x32x128_d3 h_S_

def weightsR (s : FVec F S2x32x128x128 .f32) (t : FVec F S2x32x128 .f32) : FVec F S2x32x128x128 .f32 :=
  Host.exp (subf s (broadcastInDim S2x32x128x128 ![0, 1, 2, 3] bcast_S2x32x128x1_S2x32x128x128_0_1_2_3
    (broadcastInDim S2x32x128x1 ![0, 1, 2] bcast_S2x32x128_S2x32x128x1_0_1_2 t)))

def normR (w : FVec F S2x32x128x128 .f32) : FVec F S2x32x128x128 .f32 :=
  select
    (broadcastInDim S2x32x128x128 ![0, 1, 2, 3] bcast_S1x1x128x1_S2x32x128x128_0_1_2_3
      (broadcastInDim S1x1x128x1 ![2] bcast_S128_S1x1x128x1_2 keepR))
    (Host.divf w (broadcastInDim S2x32x128x128 ![0, 1, 2, 3] bcast_S2x32x128x1_S2x32x128x128_0_1_2_3
      (select
        (broadcastInDim S2x32x128x1 ![0, 1, 2, 3] bcast_S1x1x128x1_S2x32x128x1_0_1_2_3
          (broadcastInDim S1x1x128x1 ![2] bcast_S128_S1x1x128x1_2 keepR))
        (broadcastInDim S2x32x128x1 ![0, 1, 2] bcast_S2x32x128_S2x32x128x1_0_1_2
          (Host.reduceAdd w (constant S_ .f32 0x00000000#32) reducesTo_S2x32x128x128_S2x32x128_d3 h_S_))
        (broadcastInDim S2x32x128x1 ![] bcast_S_S2x32x128x1 (id (constant S_ .f32 0x3F800000#32))))))
    (broadcastInDim S2x32x128x128 ![] bcast_S_S2x32x128x128 (id (constant S_ .f32 0x00000000#32)))

def outR (w : FVec F S2x32x128x128 .f32) (v : FVec F S2x128x32x64 .bf16) (o : FVec F S2048x512 .bf16) : FVec F S2x128x512 .bf16 :=
  truncf .bf16
    (Host.dotGeneral dot_S2x128x2048_S2048x512_S2x128x512_2_0_01_1_n_n none
      (shapeCast S2x128x2048
        (transpose S2x128x32x64 [0, 3, 1, 2]
          (Host.dotGeneral dot_S2x128x32x64_S2x32x128x128_S2x32x64x128_1_3_3_2_02_01 none (extf .f32 v bitsLt_bf16_f32) w)
          transposes_S2x32x64x128_S2x128x32x64_0_3_1_2)
        shapeCasts_S2x128x32x64_S2x128x2048)
      (extf .f32 o bitsLt_bf16_f32))
    bitsLt_bf16_f32

/-- The reference's result, of its five arguments. -/
def resR (x : FVec F S2x128x512 .bf16) (q : FVec F S512x2048 .bf16) (k v : FVec F S2x128x32x64 .bf16) (o : FVec F S2048x512 .bf16) :
    FVec F S2x128x512 .bf16 :=
  outR (normR (weightsR (scoresR x q k) (topR (scoresR x q k)))) v o

theorem res_eq (m : (ℓ : Loc nD τ sig) → Buf (Elt F) ℓ) (c : Dev nD) :
    Cert.ReferenceIdeal.Value.res_main_v45 m c
      = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## Element by element -/

theorem one_f32 : Ideal.ofBits FTy.f32 1065353216#32 = (1 : EReal) := by
  rw [show (1 : EReal) = ((1 : ℝ) : EReal) by norm_cast]
  simp [Ideal.ofBits, Ideal.ieee, -EReal.coe_mul]
  norm_num

theorem zero_f32 : Ideal.ofBits FTy.f32 0#32 = (0 : EReal) := by
  simp [Ideal.ofBits, Ideal.ieee]

theorem low_f32 : Ideal.ofBits FTy.f32 4286578688#32 = (⊥ : EReal) := by
  simp [Ideal.ofBits, Ideal.ieee]

theorem eighth_f32 : Ideal.ofBits FTy.f32 1040187392#32 = ((1 / 8 : ℝ) : EReal) := by
  simp [Ideal.ofBits, Ideal.ieee, -EReal.coe_mul]
  norm_num

theorem out_at (w : FVec Ideal S2x32x128x128 .f32) (v : FVec Ideal S2x128x32x64 .bf16) (o : FVec Ideal S2048x512 .bf16)
    (b : Fin 2) (i : Fin 128) (n : Fin 512) :
    outR w v o (ix3 b i n) = ∑ N : Fin 2048, (∑ j : Fin 128, v (ix4 b j ⟨N.val / 64, by omega⟩ ⟨N.val % 64, by omega⟩)
      * w (ix4 b ⟨N.val / 64, by omega⟩ i j)) * o (ix2 N n) := by
  pointwise [outR]

theorem norm_at (w : FVec Ideal S2x32x128x128 .f32) (b : Fin 2) (h : Fin 32) (i j : Fin 128) :
    normR w (ix4 b h i j) = Scalar.select (keepR (ix1 i)) (Ideal.div (w (ix4 b h i j))
      (Scalar.select (keepR (ix1 i)) (∑ j' : Fin 128, w (ix4 b h i j')) 1)) 0 := by
  pointwise [normR]
  simp only [id, show constant (F := Ideal) S_ FTy.f32 1065353216#32 ix0 = (1 : EReal) from one_f32, show constant (F := Ideal) S_ FTy.f32 0#32 ix0 = (0 : EReal) from zero_f32]

theorem weights_at (s : FVec Ideal S2x32x128x128 .f32) (t : FVec Ideal S2x32x128 .f32) (b : Fin 2) (h : Fin 32) (i j : Fin 128) :
    weightsR s t (ix4 b h i j) = Ideal.exp (s (ix4 b h i j) - t (ix3 b h i)) := by
  pointwise [weightsR]

theorem top_at (s : FVec Ideal S2x32x128x128 .f32) (b : Fin 2) (h : Fin 32) (i : Fin 128) :
    topR s (ix3 b h i) = Finset.univ.sup fun j : Fin 128 => s (ix4 b h i j) := by
  pointwise [topR]
  rw [low_f32]
  rfl

theorem scores_at (x : FVec Ideal S2x128x512 .bf16) (q : FVec Ideal S512x2048 .bf16) (k : FVec Ideal S2x128x32x64 .bf16)
    (b : Fin 2) (h : Fin 32) (i j : Fin 128) :
    scoresR x q k (ix4 b h i j) = Scalar.select (maskR (ix2 i j))
      ((∑ d : Fin 64, (∑ e : Fin 512, x (ix3 b i e) * q (ix2 e ⟨h.val * 64 + d.val, by omega⟩)) * k (ix4 b j h d)) * ((1 / 8 : ℝ) : EReal)) ⊥ := by
  pointwise [scoresR]
  rw [eighth_f32]
  simp only [id, show constant (F := Ideal) S_ FTy.f32 4286578688#32 ix0 = (⊥ : EReal) from low_f32]

theorem blk_at (i : Fin 128) : blkR (ix1 i) = if i.val < 64 then 0#32 else 1#32 := by
  pointwise [blkR, id]
  revert i
  decide +kernel

theorem four_at : fourR ix0 = 4#32 := by
  pointwise [fourR, id]
  decide +kernel

theorem mask_at (i j : Fin 128) : maskR (ix2 i j) = if (i.val < 64 ↔ j.val < 64) then 1#1 else 0#1 := by
  pointwise [maskR, rowsR, colsR, modR]
  rw [blk_at, blk_at, four_at]
  by_cases hi : i.val < 64 <;> by_cases hj : j.val < 64 <;> simp only [hi, hj, if_true, if_false, iff_self, iff_false, iff_true, not_true, not_false_iff] <;> decide +kernel

/-- An "or" over a set with a true member is true. -/
theorem fold_or_true {ι : Type*} [DecidableEq ι] (s : Finset ι) (f : ι → BitVec 1) (i : ι) (hi : i ∈ s) (h : f i = 1#1) :
    Finset.fold IntOp.ori 0#1 f s = 1#1 := by
  induction s using Finset.induction_on with
  | empty => exact absurd hi (Finset.notMem_empty _)
  | insert a s ha ih =>
    rw [Finset.fold_insert ha]
    rcases Finset.mem_insert.1 hi with e | e
    · rw [← e, h]
      generalize Finset.fold IntOp.ori 0#1 f s = b
      revert b; decide
    · rw [ih e]
      generalize f a = b
      revert b; decide

theorem keep_at (i : Fin 128) : keepR (ix1 i) = 1#1 := by
  pointwise [keepR]
  exact fold_or_true _ _ i (Finset.mem_univ i) (by simp [mask_at])

end Cert.Plain

end
-- ==== Proof.Softmax.lean ====
/-
One row of attention at the extended reals: the weights taken relative to the row's largest score and divided by their
sum, against the plain weights and one reciprocal of their sum.
-/
module

public import Idealize.ShloMosaic.Lib.IdealHost
public import Idealize.ShloMosaic.PureOps

@[expose] public section

noncomputable section

namespace Cert.Softmax

open Idealize.ShloMosaic

/-- The factor that turns a power of two into an exponential of an eighth. -/
def twos : ℝ := 8⁻¹ * (Real.log 2)⁻¹

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A factor that is a real and not negative goes inside a sum. -/
theorem sum_mul_coe {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, EReal.left_distrib_of_nonneg_of_ne_top (EReal.coe_nonneg.2 hr) (EReal.coe_ne_top r),
      mul_comm, mul_comm (r : EReal)]

/-- A power of two of a scaled score. -/
theorem exp2_twos (σ : ℝ) : Ideal.exp2 ((σ * twos : ℝ) : EReal) = ((Real.exp (σ * (1 / 8)) : ℝ) : EReal) := by
  show ((Real.rpow 2 (σ * twos) : ℝ) : EReal) = _
  have h2 : Real.log 2 ≠ 0 := (Real.log_pos (by norm_num)).ne'
  congr 1
  show (2 : ℝ) ^ (σ * twos) = _
  rw [Real.rpow_def_of_pos (by norm_num)]
  congr 1
  unfold twos
  field_simp

variable {n : ℕ} (k : Fin n → BitVec 1) (σ : Fin n → ℝ)

/-- The plain weight. -/
def plain (j : Fin n) : ℝ := if k j = 1#1 then Real.exp (σ j * (1 / 8)) else 0

/-- The reference's score. -/
def score (j : Fin n) : EReal := Scalar.select (k j) (((σ j : ℝ) : EReal) * ((1 / 8 : ℝ) : EReal)) ⊥

theorem weight_two (j : Fin n) : Ideal.exp2 (Scalar.select (k j) ((σ j * twos : ℝ) : EReal) ⊥) = ((plain k σ j : ℝ) : EReal) := by
  unfold plain
  show Ideal.exp2 (if k j = 1#1 then _ else _) = _
  split
  · exact exp2_twos _
  · rfl

theorem top_real (j0 : Fin n) (h0 : k j0 = 1#1) : ∃ μ : ℝ, (Finset.univ.sup fun j => score k σ j) = ((μ : ℝ) : EReal) := by
  have hb : (Finset.univ.sup fun j => score k σ j) ≠ ⊥ := by
    intro e
    have h := Finset.le_sup (f := fun j => score k σ j) (Finset.mem_univ j0)
    rw [e, le_bot_iff] at h
    have h' : (if k j0 = 1#1 then ((σ j0 : ℝ) : EReal) * ((1 / 8 : ℝ) : EReal) else ⊥) = ⊥ := h
    rw [if_pos h0, ← EReal.coe_mul] at h'
    exact EReal.coe_ne_bot _ h'
  have ht : (Finset.univ.sup fun j => score k σ j) ≠ ⊤ := by
    refine ne_of_lt ((Finset.sup_lt_iff bot_lt_top).2 fun j _ => ?_)
    show (if k j = 1#1 then ((σ j : ℝ) : EReal) * ((1 / 8 : ℝ) : EReal) else ⊥) < ⊤
    split
    · rw [← EReal.coe_mul]; exact EReal.coe_lt_top _
    · exact bot_lt_top
  exact ⟨_, (EReal.coe_toReal ht hb).symm⟩

theorem weight_exp (μ : ℝ) (j : Fin n) : Ideal.exp (score k σ j - (μ : EReal)) = ((plain k σ j * Real.exp (-μ) : ℝ) : EReal) := by
  unfold plain
  show Ideal.exp ((if k j = 1#1 then ((σ j : ℝ) : EReal) * ((1 / 8 : ℝ) : EReal) else ⊥) - (μ : EReal)) = _
  split
  · rw [← EReal.coe_mul, ← EReal.coe_sub, ← Real.exp_add, sub_eq_add_neg]
    rfl
  · rw [EReal.bot_sub, zero_mul]
    rfl

theorem plain_pos (j0 : Fin n) (h0 : k j0 = 1#1) : 0 < ∑ j, plain k σ j := by
  have hn : ∀ j, 0 ≤ plain k σ j := fun j => by unfold plain; split; exacts [(Real.exp_pos _).le, le_refl _]
  refine Finset.sum_pos' (fun j _ => hn j) ⟨j0, Finset.mem_univ _, ?_⟩
  unfold plain
  rw [if_pos h0]
  exact Real.exp_pos _

/-- The row. -/
theorem row (j0 : Fin n) (h0 : k j0 = 1#1) (v : Fin n → EReal) :
    ∑ j, v j * Ideal.div (Ideal.exp (score k σ j - Finset.univ.sup fun j => score k σ j))
        (∑ j', Ideal.exp (score k σ j' - Finset.univ.sup fun j => score k σ j))
      = (∑ j, Ideal.exp2 (Scalar.select (k j) ((σ j * twos : ℝ) : EReal) ⊥) * v j)
        * Ideal.div 1 (∑ j, Ideal.exp2 (Scalar.select (k j) ((σ j * twos : ℝ) : EReal) ⊥)) := by
  obtain ⟨μ, hμ⟩ := top_real k σ j0 h0
  have hZ := plain_pos k σ j0 h0
  have hE := Real.exp_pos (-μ)
  rw [hμ]
  simp only [weight_exp, weight_two, sum_coe, ← Finset.sum_mul]
  rw [Ideal.div_coe hZ.ne', one_mul, sum_mul_coe _ _ _ (one_div_nonneg.2 hZ.le)]
  refine Finset.sum_congr rfl fun j _ => ?_
  rw [Ideal.div_coe (mul_pos hZ hE).ne', ← EReal.coe_mul, mul_right_comm ((plain k σ j : ℝ) : EReal) (v j), ← EReal.coe_mul, mul_comm (v j)]
  congr 2
  field_simp

end Cert.Softmax

end
-- ==== Proof.Values.lean ====
/-
The kernel's result and the reference's, from whole arrays whose blocks the devices hold: each element is the same sum,
over the 2048 columns of the 32 heads, of a head's context times a row of the output projection.
-/
module

public import proofs.«01_k».proof.Proof.Heads
public import proofs.«01_k».proof.Proof.Mask
public import proofs.«01_k».proof.Proof.Plain
public import proofs.«01_k».proof.Proof.Softmax

@[expose] public section

noncomputable section

namespace Cert.Exchange

open Cert.KernelIdeal Cert.KernelIdeal.Gen Idealize.ShloMosaic Idealize.ShloMosaic.TcCoe

/-- Whole arrays: inputs, query projection and keys real, values and output projection any. -/
structure Whole where
  x : S2x128x512.Idx → ℝ
  q : Cert.ReferenceIdeal.S512x2048.Idx → ℝ
  k : S2x128x32x64.Idx → ℝ
  v : S2x128x32x64.Idx → EReal
  o : Cert.ReferenceIdeal.S2048x512.Idx → EReal

theorem dev_lt (c : Dev nD) : c.val < 8 := c.isLt

/-- Head `h` of device `c`, among all 32. -/
def headAt (c : Dev nD) (h : Fin 4) : Fin 32 := ⟨4 * c.val + h.val, by have := dev_lt c; omega⟩
/-- Column `t` of device `c`, among all 2048. -/
def colAt (c : Dev nD) (t : Fin 256) : Fin 2048 := ⟨256 * c.val + t.val, by have := dev_lt c; omega⟩

/-- The devices hold their parts. -/
structure Holds (I : Ins Ideal) (A : Whole) : Prop where
  x : ∀ c i, (I.x c i : EReal) = A.x i
  q : ∀ c e t, (I.q c (ix2 e t) : EReal) = A.q (ix2 e (colAt c t))
  k : ∀ (c : Dev nD) (b : Fin 2) (j : Fin 128) (t : Fin 256),
    (I.k c (ix3 b j t) : EReal) = A.k (ix4 b j (headAt c ⟨t.val / 64, by omega⟩) ⟨t.val % 64, by omega⟩)
  v : ∀ (c : Dev nD) (b : Fin 2) (j : Fin 128) (t : Fin 256),
    (I.v c (ix3 b j t) : EReal) = A.v (ix4 b j (headAt c ⟨t.val / 64, by omega⟩) ⟨t.val % 64, by omega⟩)
  o : ∀ c t n, (I.o c (ix2 t n) : EReal) = A.o (ix2 (colAt c t) n)

variable (A : Whole)

/-- The mask. -/
def half (i j : Fin 128) : BitVec 1 := if (i.val < 64 ↔ j.val < 64) then 1#1 else 0#1

theorem half_self (i : Fin 128) : half i i = 1#1 := if_pos Iff.rfl

/-- A score before its scale. -/
def raw (b : Fin 2) (H : Fin 32) (i j : Fin 128) : ℝ :=
  ∑ d : Fin 64, (∑ e : Fin 512, A.x (ix3 b i e) * A.q (ix2 e ⟨H.val * 64 + d.val, by omega⟩)) * A.k (ix4 b j H d)

/-- A weight. -/
def wt (b : Fin 2) (H : Fin 32) (i j : Fin 128) : EReal :=
  Ideal.exp2 (Scalar.select (half i j) ((raw A b H i j * Softmax.twos : ℝ) : EReal) ⊥)

/-- A head's context. -/
def ctx (b : Fin 2) (H : Fin 32) (i : Fin 128) (d : Fin 64) : EReal :=
  (∑ j : Fin 128, wt A b H i j * A.v (ix4 b j H d)) * Ideal.div 1 (∑ j : Fin 128, wt A b H i j)

/-- One of the 2048 terms of a result's element. -/
def term (b : Fin 2) (i : Fin 128) (n : Fin 512) (N : Fin 2048) : EReal :=
  ctx A b ⟨N.val / 64, by omega⟩ i ⟨N.val % 64, by omega⟩ * A.o (ix2 N n)

/-! ## The reference -/

theorem reference_score (b : Fin 2) (H : Fin 32) (i j : Fin 128) :
    Plain.scoresR (F := Ideal) (fun i => (A.x i : EReal)) (fun i => (A.q i : EReal)) (fun i => (A.k i : EReal)) (ix4 b H i j)
      = Softmax.score (half i) (raw A b H i) j := by
  rw [Plain.scores_at, Plain.mask_at]
  simp only [← EReal.coe_mul, Softmax.sum_coe]
  unfold Softmax.score raw half
  rw [← EReal.coe_mul]

theorem reference_at (b : Fin 2) (i : Fin 128) (n : Fin 512) :
    Plain.resR (F := Ideal) (fun i => (A.x i : EReal)) (fun i => (A.q i : EReal)) (fun i => (A.k i : EReal)) A.v A.o (ix3 b i n)
      = ∑ N : Fin 2048, term A b i n N := by
  unfold Plain.resR
  rw [Plain.out_at]
  refine Finset.sum_congr rfl fun N _ => congrArg (· * A.o (ix2 N n)) ?_
  simp only [Plain.norm_at, Plain.weights_at, Plain.top_at, Plain.keep_at, reference_score]
  exact Softmax.row (half i) (raw A b ⟨N.val / 64, by omega⟩ i) i (half_self i) _

/-! ## The kernel -/

variable {A} {I : Ins Ideal} (h : Holds I A)
include h

theorem kernel_score (c : Dev nD) (b : Fin 2) (hd : Fin 4) (Q : S128x256.Idx → EReal)
    (hQ : ∀ i n, Q (ix2 i n) = (∑ k : Fin 512, I.x c (ix3 b i k) * I.q c (ix2 k n)) * scale) (i j : Fin 128) :
    wts maskV (cols hd Q) (kB b hd (I.k c)) i j = wt A b (headAt c hd) i j := by
  unfold wts wt
  rw [maskV_at]
  have e : ∀ d : Fin 64, cols hd Q (ix2 i d) * kB (F := Ideal) b hd (I.k c) (ix3 0 j d)
      = (((∑ e : Fin 512, A.x (ix3 b i e) * A.q (ix2 e ⟨(headAt c hd).val * 64 + d.val, by omega⟩)) * A.k (ix4 b j (headAt c hd) d) * Softmax.twos : ℝ) : EReal) := by
    intro d
    rw [kB_at, h.k]
    show Q (ix2 i ⟨64 * hd.val + d.val, _⟩) * _ = _
    rw [hQ]
    simp only [h.x, h.q, ← EReal.coe_mul, Softmax.sum_coe]
    have e1 : colAt c ⟨64 * hd.val + d.val, by omega⟩ = ⟨(headAt c hd).val * 64 + d.val, by omega⟩ :=
      Fin.ext (by show 256 * c.val + (64 * hd.val + d.val) = (4 * c.val + hd.val) * 64 + d.val; omega)
    have e2 : (⟨(64 * hd.val + d.val) / 64, by omega⟩ : Fin 4) = hd := Fin.ext (by show (64 * hd.val + d.val) / 64 = hd.val; omega)
    have e3 : (⟨(64 * hd.val + d.val) % 64, by omega⟩ : Fin 64) = d := Fin.ext (by show (64 * hd.val + d.val) % 64 = d.val; omega)
    rw [e1, e2, e3]
    show ((_ : ℝ) : EReal) * ((Softmax.twos : ℝ) : EReal) * ((_ : ℝ) : EReal) = _
    rw [← EReal.coe_mul, ← EReal.coe_mul, mul_right_comm]
  simp only [e, Softmax.sum_coe, ← Finset.sum_mul]
  rfl

theorem kernel_head (c : Dev nD) (b : Fin 2) (hd : Fin 4) (Q : S128x256.Idx → EReal)
    (hQ : ∀ i n, Q (ix2 i n) = (∑ k : Fin 512, I.x c (ix3 b i k) * I.q c (ix2 k n)) * scale) (i : Fin 128) (d : Fin 64) :
    att maskV (cols hd Q) (kB b hd (I.k c)) (kB b hd (I.v c)) i d = ctx A b (headAt c hd) i d := by
  unfold att ctx
  simp only [kernel_score h c b hd Q hQ]
  congr 1
  refine Finset.sum_congr rfl fun j _ => congrArg (wt A b (headAt c hd) i j * ·) ?_
  rw [kB_at, h.v]
  have e2 : (⟨(64 * hd.val + d.val) / 64, by omega⟩ : Fin 4) = hd := Fin.ext (by show (64 * hd.val + d.val) / 64 = hd.val; omega)
  have e3 : (⟨(64 * hd.val + d.val) % 64, by omega⟩ : Fin 64) = d := Fin.ext (by show (64 * hd.val + d.val) % 64 = d.val; omega)
  rw [e2, e3]

/-- A device's term of the projection is the whole's. -/
theorem term_at (c : Dev nD) (b : Fin 2) (i : Fin 128) (n : Fin 512) (t : Fin 256) (p : Fin 4 → S128x64.Idx → EReal)
    (hp : ∀ hd d, p hd (ix2 i d) = ctx A b (headAt c hd) i d) :
    ctxV (F := Ideal) p (ix2 i t) * I.o c (ix2 t n) = term A b i n (colAt c t) := by
  rw [ctxV_at, hp, h.o]
  unfold term
  have e1 : headAt c ⟨t.val / 64, by omega⟩ = ⟨(colAt c t).val / 64, by omega⟩ :=
    Fin.ext (by show 4 * c.val + t.val / 64 = (256 * c.val + t.val) / 64; omega)
  have e2 : (⟨t.val % 64, by omega⟩ : Fin 64) = ⟨(colAt c t).val % 64, by omega⟩ :=
    Fin.ext (by show t.val % 64 = (256 * c.val + t.val) % 64; omega)
  rw [e1, e2]

theorem share0 (c : Dev nD) (i : Fin 128) (n : Fin 512) : S0 I c (ix4 0 0 i n) = ∑ t : Fin 256, term A 0 i n (colAt c t) := by
  rw [S0_at]
  refine Finset.sum_congr rfl fun t _ => term_at h c 0 i n t _ fun hd d => ?_
  rw [heads0_at]
  exact kernel_head h c 0 hd _ (q0_at I c) i d

theorem share1 (c : Dev nD) (i : Fin 128) (n : Fin 512) : S1 I c (ix4 0 0 i n) = ∑ t : Fin 256, term A 1 i n (colAt c t) := by
  rw [S1_at]
  refine Finset.sum_congr rfl fun t _ => term_at h c 1 i n t _ fun hd d => ?_
  rw [heads1_at]
  exact kernel_head h c 1 hd _ (q1_at I c) i d

omit h in
/-- The devices' columns, one device after the other, are all columns. -/
theorem all_columns (f : Fin 2048 → EReal) : ∑ c : Dev nD, ∑ t : Fin 256, f (colAt c t) = ∑ N : Fin 2048, f N := by
  have e : ∑ c : Fin 8, ∑ t : Fin 256, f (finProdFinEquiv (c, t)) = ∑ N : Fin (8 * 256), f N := by
    rw [← Fintype.sum_prod_type (f := fun p : Fin 8 × Fin 256 => f (finProdFinEquiv p))]
    exact Fintype.sum_equiv finProdFinEquiv _ _ fun _ => rfl
  refine Eq.trans ?_ e
  refine Finset.sum_congr rfl fun c _ => Finset.sum_congr rfl fun t _ => congrArg f (Fin.ext ?_)
  show 256 * c.val + t.val = t.val + 256 * c.val
  omega

/-- An element of the kernel's result. -/
theorem kernel_at (c : Dev nD) (b : Fin 2) (i : Fin 128) (n : Fin 512) :
    outs I c b (ix3 0 i n) = ∑ N : Fin 2048, term A b i n N := by
  rw [← all_columns]
  match b with
  | 0 =>
    rw [outs0_at, all_devices (fun e => S0 I e (ix4 0 0 i n))]
    exact Finset.sum_congr rfl fun e _ => share0 h e i n
  | 1 =>
    rw [outs1_at, all_devices (fun e => S1 I e (ix4 0 0 i n))]
    exact Finset.sum_congr rfl fun e _ => share1 h e i n

theorem same (c : Dev nD) : outB I c = Plain.resR (F := Ideal) (fun i => (A.x i : EReal)) (fun i => (A.q i : EReal)) (fun i => (A.k i : EReal)) A.v A.o := by
  funext i
  have e : i = ix3 (i 0) (i 1) (i 2) := by
    funext a
    match a with
    | ⟨0, _⟩ => rfl
    | ⟨1, _⟩ => rfl
    | ⟨2, _⟩ => rfl
  have er : rowOf i = ix3 0 (i 1) (i 2) := by
    funext a
    match a with
    | ⟨0, _⟩ => rfl
    | ⟨1, _⟩ => rfl
    | ⟨2, _⟩ => rfl
  show outs I c (i 0) (rowOf i) = _
  rw [er]
  refine (kernel_at h c (i 0) (i 1) (i 2)).trans ?_
  conv_rhs => rw [e]
  exact (reference_at A (i 0) (i 1) (i 2)).symm

end Cert.Exchange

end
-- ==== Proof.Algebraic.lean ====
/-
The value claim: on finite inputs every device's result is the reference's.
-/
module

public import proofs.«01_k».proof.Proof.Frames
public import proofs.«01_k».proof.Proof.Inputs
public import proofs.«01_k».proof.Proof.Finite
public import proofs.«01_k».proof.Proof.Values
public import Idealize.ShloMosaic.Lib.Layout

@[expose] public section

noncomputable section

namespace Cert.Exchange

open Cert.KernelIdeal Cert.KernelIdeal.Gen Idealize.ShloMosaic Idealize.ShloMosaic.TcCoe

/-- A device's column block of the whole query projection. -/
theorem block_q (c : Dev nD) (B : S512x256.Idx → EReal) (W : Cert.ReferenceIdeal.S512x2048.Idx → EReal)
    (h : B = Layout.block ⟨2, ![512, 256]⟩ ⟨2, ![512, 2048]⟩ 1 8 c W) (e : Fin 512) (t : Fin 256) :
    B (ix2 e t) = W (ix2 e (colAt c t)) := by
  rw [h, Layout.block_apply]
  refine congrArg W (funext fun a => Fin.ext ?_)
  match a with
  | ⟨0, _⟩ => rfl
  | ⟨1, _⟩ => show c.val * 256 + t.val = 256 * c.val + t.val; omega

/-- A device's row block of the whole output projection. -/
theorem block_o (c : Dev nD) (B : S256x512.Idx → EReal) (W : Cert.ReferenceIdeal.S2048x512.Idx → EReal)
    (h : B = Layout.block ⟨2, ![256, 512]⟩ ⟨2, ![2048, 512]⟩ 0 8 c W) (t : Fin 256) (n : Fin 512) :
    B (ix2 t n) = W (ix2 (colAt c t) n) := by
  rw [h, Layout.block_apply]
  refine congrArg W (funext fun a => Fin.ext ?_)
  match a with
  | ⟨0, _⟩ => show c.val * 256 + t.val = 256 * c.val + t.val; omega
  | ⟨1, _⟩ => rfl

/-- Every column of the whole is some device's. -/
theorem col_of (i : Cert.ReferenceIdeal.S512x2048.Idx) : ∃ (c : Dev nD) (e : Fin 512) (t : Fin 256), i = ix2 e (colAt c t) := by
  have h1 : (i 1).val < 2048 := (i 1).isLt
  refine ⟨⟨(i 1).val / 256, by show (i 1).val / 256 < 8; omega⟩, i 0, ⟨(i 1).val % 256, by omega⟩, funext fun a => Fin.ext ?_⟩
  match a with
  | ⟨0, _⟩ => rfl
  | ⟨1, _⟩ => show (i 1).val = 256 * ((i 1).val / 256) + (i 1).val % 256; omega

attribute [local instance] shapes_kernel in
/-- From finite memories holding their parts: every device's result is the reference's term. -/
theorem results (m : (ℓ : Loc nD τ sig) → Buf (Elt Ideal) ℓ) (x : S2x128x512.Idx → EReal) (q : Cert.ReferenceIdeal.S512x2048.Idx → EReal)
    (k v : S2x128x32x64.Idx → EReal) (o : Cert.ReferenceIdeal.S2048x512.Idx → EReal)
    (hp : Cert.Pre_KernelIdeal_finite_KernelIdeal m)
    (hx : ∀ c : Dev nD, m ((c.tc : Thread nD τ).loc main_arg0) = x)
    (hq : ∀ c : Dev nD, m ((c.tc : Thread nD τ).loc main_arg1) = Layout.block ⟨2, ![512, 256]⟩ ⟨2, ![512, 2048]⟩ 1 8 c q)
    (hk : ∀ c : Dev nD, m ((c.tc : Thread nD τ).loc main_arg2) = k)
    (hv : ∀ c : Dev nD, m ((c.tc : Thread nD τ).loc main_arg3) = v)
    (ho : ∀ c : Dev nD, m ((c.tc : Thread nD τ).loc main_arg4) = Layout.block ⟨2, ![256, 512]⟩ ⟨2, ![2048, 512]⟩ 0 8 c o) (c : Dev nD) :
    outB (insOf m) c = Plain.resR (F := Ideal) x q k v o := by
  have hf := fun c => finite_reads _ _ _ _ _ (hp c)
  have rx : ∀ i, ∃ r : ℝ, x i = (r : EReal) := fun i => by
    obtain ⟨r, hr⟩ := (hf 0).1 i
    exact ⟨r, (congrFun (hx 0) i).symm.trans hr⟩
  have rk : ∀ i, ∃ r : ℝ, k i = (r : EReal) := fun i => by
    obtain ⟨r, hr⟩ := (hf 0).2.2 i
    exact ⟨r, (congrFun (hk 0) i).symm.trans hr⟩
  have rq : ∀ i, ∃ r : ℝ, q i = (r : EReal) := fun i => by
    obtain ⟨c, e, t, rfl⟩ := col_of i
    obtain ⟨r, hr⟩ := (hf c).2.1 (ix2 e t)
    exact ⟨r, (block_q c _ q (hq c) e t).symm.trans hr⟩
  choose xr hxr using rx
  choose kr hkr using rk
  choose qr hqr using rq
  obtain rfl : x = fun i => (xr i : EReal) := funext hxr
  obtain rfl : k = fun i => (kr i : EReal) := funext hkr
  obtain rfl : q = fun i => (qr i : EReal) := funext hqr
  refine same (A := ⟨xr, qr, kr, v, o⟩) (I := insOf m) ⟨?_, ?_, ?_, ?_, ?_⟩ c
  · intro c i
    rw [ins_x]; exact congrFun (hx c) i
  · intro c e t
    rw [ins_q]; exact block_q c _ _ (hq c) e t
  · intro c b j t
    rw [ins_k]; exact congrFun (hk c) _
  · intro c b j t
    rw [ins_v]; exact congrFun (hv c) _
  · intro c t n
    rw [ins_o]; exact block_o c _ _ (ho c) t n

theorem values : Cert.algebraic_KernelIdeal_ReferenceIdeal_pre_finite_KernelIdeal (hKernelIdeal := Cert.KernelIdeal.Gen.facts)
    (hReferenceIdeal := Cert.ReferenceIdeal.Gen.facts) (hPre_finite_KernelIdeal := shapes_kernel) := fun m g m' g' hp h => by
  refine ⟨Cert.ReferenceIdeal.Value.res_main_v45 m' 0, ?_, ?_⟩
  · refine (θ_run (Cert.KernelIdeal.defs (F := Ideal)) _ _).mono (fun r hr c => ?_) (run_main (F := Ideal) m g)
    obtain ⟨h0, h1, h2, h3, h4, h5⟩ := hr.1 c
    refine ⟨h5.trans ?_, h0, h1, h2, h3, h4⟩
    rw [Plain.res_eq]
    exact results m _ _ _ _ _ hp (fun c => (h c).1) (fun c => (h c).2.1) (fun c => (h c).2.2.1) (fun c => (h c).2.2.2.1)
      (fun c => (h c).2.2.2.2) c
  · exact (θ_run (Cert.ReferenceIdeal.defs (F := Ideal)) _ _).mono (fun r hr => hr 0) (Cert.ReferenceIdeal.Value.run (F := Ideal) m' g')

end Cert.Exchange

end
-- ==== Proof.lean ====
/- The certificate's claim, assembled: the frames of the kernel, of the ideal kernel and of the reference
   (Proof/Frames.lean), the named constant (`keeps`, there), and the values on finite inputs (Proof/Algebraic.lean). A frame
   under the precondition is the frame without it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.shapes_kernel, Cert.Exchange.shapes_reference,
  Cert.Exchange.frame_kernel, Cert.Exchange.frame_ideal, fun m g _ => Cert.Exchange.frame_ideal m g trivial,
  Cert.Exchange.frame_reference, fun m g _ => Cert.Exchange.frame_reference m g trivial, Cert.Exchange.keeps, Cert.Exchange.values⟩

end Cert.Proof

end
